-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Projection (m : (ℓ : Loc Cert.Projection.nD Cert.Projection.τ Cert.Projection.sig) → Buf (Elt Bits) ℓ) : Prop :=
  True

def Pre_ProjectionIdeal (m : (ℓ : Loc Cert.ProjectionIdeal.nD Cert.ProjectionIdeal.τ Cert.ProjectionIdeal.sig) → Buf (Elt Ideal) ℓ) : Prop :=
  True

def Pre_ProjectionReferenceIdeal (m : (ℓ : Loc Cert.ProjectionReferenceIdeal.nD Cert.ProjectionReferenceIdeal.τ Cert.ProjectionReferenceIdeal.sig) → Buf (Elt Ideal) ℓ) : Prop :=
  True

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Projection [hProjection : Cert.Projection.Facts] : Prop :=
  ∀ (m : (ℓ : Loc Cert.Projection.nD Cert.Projection.τ Cert.Projection.sig) → Buf (Elt Bits) ℓ) (g : Dev Cert.Projection.nD → PrngReg), Pre_Projection m →
    θ_run (Cert.Projection.defs (F := Bits)) (onTc (τ := Cert.Projection.τ) (Cert.Projection.main (F := Bits))) ⟨m, fun _ => 0, g⟩ (fun r => (∀ c : Dev Cert.Projection.nD,
      r.2.mem ((c.tc : Thread Cert.Projection.nD Cert.Projection.τ).loc Cert.Projection.main_arg0) = m ((c.tc : Thread Cert.Projection.nD Cert.Projection.τ).loc Cert.Projection.main_arg0)
      ∧ r.2.mem ((c.tc : Thread Cert.Projection.nD Cert.Projection.τ).loc Cert.Projection.main_arg1) = m ((c.tc : Thread Cert.Projection.nD Cert.Projection.τ).loc Cert.Projection.main_arg1))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1))
      ∧ r.2.sem = fun _ => 0)

def quiescent_ProjectionReferenceIdeal [hProjectionReferenceIdeal : Cert.ProjectionReferenceIdeal.Facts] : Prop :=
  ∀ (m : (ℓ : Loc Cert.ProjectionReferenceIdeal.nD Cert.ProjectionReferenceIdeal.τ Cert.ProjectionReferenceIdeal.sig) → Buf (Elt Ideal) ℓ) (g : Dev Cert.ProjectionReferenceIdeal.nD → PrngReg), Pre_ProjectionReferenceIdeal m →
    θ_run (Cert.ProjectionReferenceIdeal.defs (F := Ideal)) (onTc (τ := Cert.ProjectionReferenceIdeal.τ) (Cert.ProjectionReferenceIdeal.main (F := Ideal))) ⟨m, fun _ => 0, g⟩ (fun r => (∀ c : Dev Cert.ProjectionReferenceIdeal.nD,
      r.2.mem ((c.tc : Thread Cert.ProjectionReferenceIdeal.nD Cert.ProjectionReferenceIdeal.τ).loc Cert.ProjectionReferenceIdeal.main_arg0) = m ((c.tc : Thread Cert.ProjectionReferenceIdeal.nD Cert.ProjectionReferenceIdeal.τ).loc Cert.ProjectionReferenceIdeal.main_arg0)
      ∧ r.2.mem ((c.tc : Thread Cert.ProjectionReferenceIdeal.nD Cert.ProjectionReferenceIdeal.τ).loc Cert.ProjectionReferenceIdeal.main_arg1) = m ((c.tc : Thread Cert.ProjectionReferenceIdeal.nD Cert.ProjectionReferenceIdeal.τ).loc Cert.ProjectionReferenceIdeal.main_arg1))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2))
      ∧ r.2.sem = fun _ => 0)

def preserves_Kernel_KernelIdeal : Prop :=
  IdealRules.named_const.Statement Cert.KernelIdeal.κ "scale2" .f32 0x3E0293EE#32 (((Real.sqrt 128)⁻¹ * (Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Projection_ProjectionIdeal : Prop :=
  True

def algebraic_ProjectionIdeal_ProjectionReferenceIdeal [hProjectionIdeal : Cert.ProjectionIdeal.Facts] [hProjectionReferenceIdeal : Cert.ProjectionReferenceIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg)
    (m' : (ℓ : Loc Cert.ProjectionReferenceIdeal.nD Cert.ProjectionReferenceIdeal.τ Cert.ProjectionReferenceIdeal.sig) → Buf (Elt Ideal) ℓ) (g' : Dev Cert.ProjectionReferenceIdeal.nD → PrngReg), Pre_ProjectionIdeal m →
    (∀ c : Dev Cert.ProjectionIdeal.nD,
      m' ((c.tc : Thread Cert.ProjectionReferenceIdeal.nD Cert.ProjectionReferenceIdeal.τ).loc Cert.ProjectionReferenceIdeal.main_arg0) = m ((c.tc : Thread Cert.ProjectionIdeal.nD Cert.ProjectionIdeal.τ).loc Cert.ProjectionIdeal.main_arg0)
      ∧ m' ((c.tc : Thread Cert.ProjectionReferenceIdeal.nD Cert.ProjectionReferenceIdeal.τ).loc Cert.ProjectionReferenceIdeal.main_arg1) = m ((c.tc : Thread Cert.ProjectionIdeal.nD Cert.ProjectionIdeal.τ).loc Cert.ProjectionIdeal.main_arg1)) →
    ∃ (v0 : (c : Dev Cert.ProjectionIdeal.nD) → Buf (Elt Ideal) ((c.tc : Thread Cert.ProjectionIdeal.nD Cert.ProjectionIdeal.τ).loc Cert.ProjectionIdeal.main_v0)),
      θ_run (Cert.ProjectionIdeal.defs (F := Ideal)) (onTc (τ := Cert.ProjectionIdeal.τ) (Cert.ProjectionIdeal.main (F := Ideal))) ⟨m, fun _ => 0, g⟩ (fun r => ∀ c : Dev Cert.ProjectionIdeal.nD,
          r.2.mem ((c.tc : Thread Cert.ProjectionIdeal.nD Cert.ProjectionIdeal.τ).loc Cert.ProjectionIdeal.main_v0) = v0 c
          ∧ r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1))
      ∧ θ_run (Cert.ProjectionReferenceIdeal.defs (F := Ideal)) (onTc (τ := Cert.ProjectionReferenceIdeal.τ) (Cert.ProjectionReferenceIdeal.main (F := Ideal))) ⟨m', fun _ => 0, g'⟩ (fun r => ∀ c : Dev Cert.ProjectionReferenceIdeal.nD,
          r.2.mem ((c.tc : Thread Cert.ProjectionReferenceIdeal.nD Cert.ProjectionReferenceIdeal.τ).loc Cert.ProjectionReferenceIdeal.main_v4) = v0 c
          ∧ r.2.mem ((c.tc : Thread Cert.ProjectionReferenceIdeal.nD Cert.ProjectionReferenceIdeal.τ).loc Cert.ProjectionReferenceIdeal.main_arg0) = m' ((c.tc : Thread Cert.ProjectionReferenceIdeal.nD Cert.ProjectionReferenceIdeal.τ).loc Cert.ProjectionReferenceIdeal.main_arg0)
          ∧ r.2.mem ((c.tc : Thread Cert.ProjectionReferenceIdeal.nD Cert.ProjectionReferenceIdeal.τ).loc Cert.ProjectionReferenceIdeal.main_arg1) = m' ((c.tc : Thread Cert.ProjectionReferenceIdeal.nD Cert.ProjectionReferenceIdeal.τ).loc Cert.ProjectionReferenceIdeal.main_arg1))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v21) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v21) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4))

def preserves_Conv_ConvIdeal : Prop :=
  True

def algebraic_ConvIdeal_ConvReferenceIdeal [hConvIdeal : Cert.ConvIdeal.Facts] [hConvReferenceIdeal : Cert.ConvReferenceIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvIdeal m →
    (∀ c : Dev Cert.ConvIdeal.nD,
      m' ((c.tc : Thread Cert.ConvReferenceIdeal.nD Cert.ConvReferenceIdeal.τ).loc Cert.ConvReferenceIdeal.main_arg0) = m ((c.tc : Thread Cert.ConvIdeal.nD Cert.ConvIdeal.τ).loc Cert.ConvIdeal.main_arg0)
      ∧ m' ((c.tc : Thread Cert.ConvReferenceIdeal.nD Cert.ConvReferenceIdeal.τ).loc Cert.ConvReferenceIdeal.main_arg1) = m ((c.tc : Thread Cert.ConvIdeal.nD Cert.ConvIdeal.τ).loc Cert.ConvIdeal.main_arg1)
      ∧ m' ((c.tc : Thread Cert.ConvReferenceIdeal.nD Cert.ConvReferenceIdeal.τ).loc Cert.ConvReferenceIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v1) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v34) = v0 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2))

def Claim : Prop :=
  ∃ (hKernel : Cert.Kernel.Facts) (hKernelIdeal : Cert.KernelIdeal.Facts) (hReferenceIdeal : Cert.ReferenceIdeal.Facts) (hProjection : Cert.Projection.Facts) (hProjectionIdeal : Cert.ProjectionIdeal.Facts) (hProjectionReferenceIdeal : Cert.ProjectionReferenceIdeal.Facts) (hExperts : Cert.Experts.Facts) (hExpertsIdeal : Cert.ExpertsIdeal.Facts) (hExpertsReferenceIdeal : Cert.ExpertsReferenceIdeal.Facts) (hMerge : Cert.Merge.Facts) (hMergeIdeal : Cert.MergeIdeal.Facts) (hMergeReferenceIdeal : Cert.MergeReferenceIdeal.Facts) (hConv : Cert.Conv.Facts) (hConvIdeal : Cert.ConvIdeal.Facts) (hConvReferenceIdeal : Cert.ConvReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Projection (hProjection := hProjection)
    ∧ quiescent_ProjectionIdeal (hProjectionIdeal := hProjectionIdeal)
    ∧ quiescent_ProjectionReferenceIdeal (hProjectionReferenceIdeal := hProjectionReferenceIdeal)
    ∧ quiescent_Experts (hExperts := hExperts)
    ∧ quiescent_ExpertsIdeal (hExpertsIdeal := hExpertsIdeal)
    ∧ quiescent_ExpertsReferenceIdeal (hExpertsReferenceIdeal := hExpertsReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Conv (hConv := hConv)
    ∧ quiescent_ConvIdeal (hConvIdeal := hConvIdeal)
    ∧ quiescent_ConvReferenceIdeal (hConvReferenceIdeal := hConvReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Projection_ProjectionIdeal
    ∧ algebraic_ProjectionIdeal_ProjectionReferenceIdeal (hProjectionIdeal := hProjectionIdeal) (hProjectionReferenceIdeal := hProjectionReferenceIdeal)
    ∧ preserves_Experts_ExpertsIdeal
    ∧ algebraic_ExpertsIdeal_ExpertsReferenceIdeal (hExpertsIdeal := hExpertsIdeal) (hExpertsReferenceIdeal := hExpertsReferenceIdeal)
    ∧ preserves_Merge_MergeIdeal
    ∧ algebraic_MergeIdeal_MergeReferenceIdeal (hMergeIdeal := hMergeIdeal) (hMergeReferenceIdeal := hMergeReferenceIdeal)
    ∧ preserves_Conv_ConvIdeal
    ∧ algebraic_ConvIdeal_ConvReferenceIdeal (hConvIdeal := hConvIdeal) (hConvReferenceIdeal := hConvReferenceIdeal)
-- ==== Pre_finite_scores.lean ====
abbrev S8192x3072 : Shape := ⟨2, ![8192, 3072]⟩
abbrev S1024x3072 : Shape := ⟨2, ![1024, 3072]⟩
abbrev S2x8x15x31 : Shape := ⟨4, ![2, 8, 15, 31]⟩
abbrev S8192x2048 : Shape := ⟨2, ![8192, 2048]⟩
abbrev S_ : Shape := ⟨0, ![]⟩
abbrev S1024x1024 : Shape := ⟨2, ![1024, 1024]⟩
abbrev S1x8x15x31 : Shape := ⟨4, ![1, 8, 15, 31]⟩
abbrev S8x15x31 : Shape := ⟨3, ![8, 15, 31]⟩

class Facts : Prop where
  slices_S8192x3072_S8192x2048_0_0 : S8192x3072.Slices ![0, 0] S8192x2048
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel
  slices_S1024x3072_S1024x1024_0_1024 : S1024x3072.Slices ![0, 1024] S1024x1024
  bcast_S_S1024x1024 : S_.BroadcastsInDim S1024x1024 (![] : Fin 0 → Fin S1024x1024.rank)
  reducesTo_S1024x1024_S_d0_1 : S1024x1024.ReducesTo [0, 1] S_
  slices_S2x8x15x31_S1x8x15x31_0_0_0_0 : S2x8x15x31.Slices ![0, 0, 0, 0] S1x8x15x31
  shapeCasts_S1x8x15x31_S8x15x31 : S1x8x15x31.ShapeCasts S8x15x31
  bcast_S_S8x15x31 : S_.BroadcastsInDim S8x15x31 (![] : Fin 0 → Fin S8x15x31.rank)
  reducesTo_S8x15x31_S_d0_1_2 : S8x15x31.ReducesTo [0, 1, 2] S_

variable [Facts]

def fn_part1 {F : FTy → Type} [FloatOps F] (main_v12 : IVec S_ 1) (main_v17 : IVec S_ 1) : IVec S_ 1 :=
  let main_v18 : IVec S_ 1 := andi main_v12 main_v17
  main_v18

def fn {F : FTy → Type} [FloatOps F] (main_arg0 : FVec F S8192x3072 .bf16) (main_arg1 : FVec F S1024x3072 .bf16) (main_arg2 : FVec F S2x8x15x31 .f32) : IVec S_ 1 :=
  let main_v0 : FVec F S8192x2048 .bf16 := (extractStridedSlice S8192x2048 ![0, 0] · slices_S8192x3072_S8192x2048_0_0) main_arg0
  let main_v1 : FVec F S8192x2048 .f32 := (extf .f32 · bitsLt_bf16_f32) main_v0
  let main_v2 : FVec F S8192x2048 .f32 := Host.absf main_v1
  let main_cst : FVec F S_ .f32 := constant S_ .f32 0x7F800000#32
  let main_v3 : FVec F S8192x2048 .f32 := broadcastInDim S8192x2048 ![] bcast_S_S8192x2048 main_cst
  let main_v4 : IVec S8192x2048 1 := cmpf .olt main_v2 main_v3
  let main_c : IVec S_ 1 := constantI S_ 1 1#1
  let main_v5 : IVec S_ 1 := (fun x v => Host.reduce IntOp.andi x v reducesTo_S8192x2048_S_d0_1 h_S_) main_v4 main_c
  let main_v6 : FVec F S1024x1024 .bf16 := (extractStridedSlice S1024x1024 ![0, 1024] · slices_S1024x3072_S1024x1024_0_1024) main_arg1
  let main_v7 : FVec F S1024x1024 .f32 := (extf .f32 · bitsLt_bf16_f32) main_v6
  let main_v8 : FVec F S1024x1024 .f32 := Host.absf main_v7
  let main_cst_0 : FVec F S_ .f32 := constant S_ .f32 0x7F800000#32
  let main_v9 : FVec F S1024x1024 .f32 := broadcastInDim S1024x1024 ![] bcast_S_S1024x1024 main_cst_0
  let main_v10 : IVec S1024x1024 1 := cmpf .olt main_v8 main_v9
  let main_c_1 : IVec S_ 1 := constantI S_ 1 1#1
  let main_v11 : IVec S_ 1 := (fun x v => Host.reduce IntOp.andi x v reducesTo_S1024x1024_S_d0_1 h_S_) main_v10 main_c_1
  let main_v12 : IVec S_ 1 := andi main_v5 main_v11
  let main_v13 : FVec F S1x8x15x31 .f32 := (extractStridedSlice S1x8x15x31 ![0, 0, 0, 0] · slices_S2x8x15x31_S1x8x15x31_0_0_0_0) main_arg2
  let main_v14 : FVec F S8x15x31 .f32 := shapeCast S8x15x31 main_v13 shapeCasts_S1x8x15x31_S8x15x31
  let main_cst_2 : FVec F S_ .f32 := constant S_ .f32 0x7F800000#32
  let main_v15 : FVec F S8x15x31 .f32 := broadcastInDim S8x15x31 ![] bcast_S_S8x15x31 main_cst_2
  let main_v16 : IVec S8x15x31 1 := cmpf .olt main_v14 main_v15
  let main_c_3 : IVec S_ 1 := constantI S_ 1 1#1
  let main_v17 : IVec S_ 1 := (fun x v => Host.reduce IntOp.andi x v reducesTo_S8x15x31_S_d0_1_2 h_S_) main_v16 main_c_3
  fn_part1 (F := F) main_v12 main_v17
-- ==== Kernel.lean ====
abbrev S8192x3072 : Shape := ⟨2, ![8192, 3072]⟩
abbrev S1024x3072 : Shape := ⟨2, ![1024, 3072]⟩
abbrev S2x8x15x31 : Shape := ⟨4, ![2, 8, 15, 31]⟩
abbrev S3 : Shape := ⟨1, ![3]⟩
abbrev S_ : Shape := ⟨0, ![]⟩
abbrev S3x1 : Shape := ⟨2, ![3, 1]⟩
abbrev S4 : Shape := ⟨1, ![4]⟩
abbrev S1x4 : Shape := ⟨2, ![1, 4]⟩
abbrev S3x4 : Shape := ⟨2, ![3, 4]⟩
abbrev S3x4x1 : Shape := ⟨3, ![3, 4, 1]⟩
abbrev S12 : Shape := ⟨1, ![12]⟩
abbrev S1x12 : Shape := ⟨2, ![1, 12]⟩
abbrev S3x12 : Shape := ⟨2, ![3, 12]⟩
abbrev S3x1x12 : Shape := ⟨3, ![3, 1, 12]⟩
abbrev S64 : Shape := ⟨1, ![64]⟩
abbrev S64x1 : Shape := ⟨2, ![64, 1]⟩
abbrev S1x64 : Shape := ⟨2, ![1, 64]⟩
abbrev S3x4x12 : Shape := ⟨3, ![3, 4, 12]⟩
abbrev S64x64 : Shape := ⟨2, ![64, 64]⟩
abbrev S3x4x1x12x1 : Shape := ⟨5, ![3, 4, 1, 12, 1]⟩
abbrev S1x1x64x1x64 : Shape := ⟨5, ![1, 1, 64, 1, 64]⟩
abbrev S3x4x64x12x64 : Shape := ⟨5, ![3, 4, 64, 12, 64]⟩
abbrev S768x768 : Shape := ⟨2, ![768, 768]⟩
abbrev S16x465 : Shape := ⟨2, ![16, 465]⟩
abbrev S16x480 : Shape := ⟨2, ![16, 480]⟩
abbrev S480 : Shape := ⟨1, ![480]⟩
abbrev S1x480 : Shape := ⟨2, ![1, 480]⟩
abbrev S768x768x1 : Shape := ⟨3, ![768, 768, 1]⟩
abbrev S16x768x768 : Shape := ⟨3, ![16, 768, 768]⟩
abbrev S2x8x3x256x768 : Shape := ⟨5, ![2, 8, 3, 256, 768]⟩
abbrev S2x3x8x256x768 : Shape := ⟨5, ![2, 3, 8, 256, 768]⟩
abbrev S4x2048x3072 : Shape := ⟨3, ![4, 2048, 3072]⟩
abbrev S4x256x3072 : Shape := ⟨3, ![4, 256, 3072]⟩
abbrev S4x2048x1024 : Shape := ⟨3, ![4, 2048, 1024]⟩
abbrev S1x256x1024 : Shape := ⟨3, ![1, 256, 1024]⟩
abbrev S1x2048x1024 : Shape := ⟨3, ![1, 2048, 1024]⟩
abbrev S1x3x8x256x768 : Shape := ⟨5, ![1, 3, 8, 256, 768]⟩
abbrev S1x256x128 : Shape := ⟨3, ![1, 256, 128]⟩
abbrev S256x128 : Shape := ⟨2, ![256, 128]⟩
abbrev S1x768x128 : Shape := ⟨3, ![1, 768, 128]⟩
abbrev S768x128 : Shape := ⟨2, ![768, 128]⟩
abbrev S256x768 : Shape := ⟨2, ![256, 768]⟩
abbrev S256x256 : Shape := ⟨2, ![256, 256]⟩
abbrev S1x1x1x256x768 : Shape := ⟨5, ![1, 1, 1, 256, 768]⟩
abbrev S256 : Shape := ⟨1, ![256]⟩
abbrev S256x1 : Shape := ⟨2, ![256, 1]⟩

abbrev nBuf : Space → Nat
  | .hbm => 149
  | .vmem => 13
  | .smem => 0
  | _ => 0

abbrev hbmTy0_0 (i : Nat) : BufTy := match i % 128 with
  | 0 => ⟨S8192x3072, .bf16⟩
  | 1 => ⟨S1024x3072, .bf16⟩
  | 2 => ⟨S2x8x15x31, .f32⟩
  | 3 => ⟨S3, .i32⟩
  | 4 => ⟨S_, .i32⟩
  | 5 => ⟨S3, .i32⟩
  | 6 => ⟨S3, .i1⟩
  | 7 => ⟨S_, .i32⟩
  | 8 => ⟨S_, .i32⟩
  | 9 => ⟨S3, .i32⟩
  | 10 => ⟨S3, .i32⟩
  | 11 => ⟨S_, .i32⟩
  | 12 => ⟨S3, .i32⟩
  | 13 => ⟨S3, .i32⟩
  | 14 => ⟨S_, .i32⟩
  | 15 => ⟨S3, .i32⟩
  | 16 => ⟨S3, .i32⟩
  | 17 => ⟨S_, .i32⟩
  | 18 => ⟨S_, .i32⟩
  | 19 => ⟨S_, .i32⟩
  | 20 => ⟨S3, .i32⟩
  | 21 => ⟨S3, .i32⟩
  | 22 => ⟨S_, .i32⟩
  | 23 => ⟨S3, .i32⟩
  | 24 => ⟨S3, .i32⟩
  | 25 => ⟨S3x1, .i32⟩
  | 26 => ⟨S_, .i32⟩
  | 27 => ⟨S3x1, .i32⟩
  | 28 => ⟨S3x1, .i32⟩
  | 29 => ⟨S4, .i32⟩
  | 30 => ⟨S1x4, .i32⟩
  | 31 => ⟨S3x4, .i32⟩
  | 32 => ⟨S3x4, .i32⟩
  | 33 => ⟨S3x4, .i32⟩
  | 34 => ⟨S3x4x1, .i32⟩
  | 35 => ⟨S3x1, .i32⟩
  | 36 => ⟨S12, .i32⟩
  | 37 => ⟨S1x12, .i32⟩
  | 38 => ⟨S3x12, .i32⟩
  | 39 => ⟨S3x12, .i32⟩
  | 40 => ⟨S3x12, .i32⟩
  | 41 => ⟨S3x1x12, .i32⟩
  | 42 => ⟨S_, .i32⟩
  | 43 => ⟨S3x4x1, .i32⟩
  | 44 => ⟨S3x4x1, .i32⟩
  | 45 => ⟨S_, .i32⟩
  | 46 => ⟨S_, .i32⟩
  | 47 => ⟨S_, .i32⟩
  | 48 => ⟨S3x4x1, .i32⟩
  | 49 => ⟨S3x4x1, .i32⟩
  | 50 => ⟨S_, .i32⟩
  | 51 => ⟨S3x4x1, .i32⟩
  | 52 => ⟨S3x4x1, .i32⟩
  | 53 => ⟨S64, .i32⟩
  | 54 => ⟨S64x1, .i32⟩
  | 55 => ⟨S64, .i32⟩
  | 56 => ⟨S1x64, .i32⟩
  | 57 => ⟨S_, .i32⟩
  | 58 => ⟨S64x1, .i32⟩
  | 59 => ⟨S64x1, .i32⟩
  | 60 => ⟨S_, .i32⟩
  | 61 => ⟨S_, .i32⟩
  | 62 => ⟨S_, .i32⟩
  | 63 => ⟨S64x1, .i32⟩
  | 64 => ⟨S64x1, .i32⟩
  | 65 => ⟨S_, .i32⟩
  | 66 => ⟨S64x1, .i32⟩
  | 67 => ⟨S64x1, .i32⟩
  | 68 => ⟨S3x4x12, .i32⟩
  | 69 => ⟨S3x4x12, .i32⟩
  | 70 => ⟨S3x4x12, .i1⟩
  | 71 => ⟨S_, .i32⟩
  | 72 => ⟨S3x4x1, .i32⟩
  | 73 => ⟨S3x4x1, .i32⟩
  | 74 => ⟨S3x4x12, .i32⟩
  | 75 => ⟨S3x4x12, .i32⟩
  | 76 => ⟨S3x4x12, .i1⟩
  | 77 => ⟨S3x4x12, .i1⟩
  | 78 => ⟨S64x64, .i32⟩
  | 79 => ⟨S64x64, .i32⟩
  | 80 => ⟨S64x64, .i1⟩
  | 81 => ⟨S_, .i32⟩
  | 82 => ⟨S64x1, .i32⟩
  | 83 => ⟨S64x1, .i32⟩
  | 84 => ⟨S64x64, .i32⟩
  | 85 => ⟨S64x64, .i32⟩
  | 86 => ⟨S64x64, .i1⟩
  | 87 => ⟨S64x64, .i1⟩
  | 88 => ⟨S3x4x12, .i32⟩
  | 89 => ⟨S3x4x12, .i32⟩
  | 90 => ⟨S3x4x12, .i32⟩
  | 91 => ⟨S_, .i32⟩
  | 92 => ⟨S3x4x12, .i32⟩
  | 93 => ⟨S3x4x12, .i32⟩
  | 94 => ⟨S_, .i32⟩
  | 95 => ⟨S3x4x12, .i32⟩
  | 96 => ⟨S3x4x12, .i32⟩
  | 97 => ⟨S_, .i32⟩
  | 98 => ⟨S3x4x12, .i32⟩
  | 99 => ⟨S3x4x12, .i32⟩
  | 100 => ⟨S64x64, .i32⟩
  | 101 => ⟨S64x64, .i32⟩
  | 102 => ⟨S64x64, .i32⟩
  | 103 => ⟨S_, .i32⟩
  | 104 => ⟨S64x64, .i32⟩
  | 105 => ⟨S64x64, .i32⟩
  | 106 => ⟨S_, .i32⟩
  | 107 => ⟨S64x64, .i32⟩
  | 108 => ⟨S64x64, .i32⟩
  | 109 => ⟨S3x4x1x12x1, .i1⟩
  | 110 => ⟨S1x1x64x1x64, .i1⟩
  | 111 => ⟨S3x4x64x12x64, .i1⟩
  | 112 => ⟨S3x4x64x12x64, .i1⟩
  | 113 => ⟨S3x4x64x12x64, .i1⟩
  | 114 => ⟨S3x4x1x12x1, .i32⟩
  | 115 => ⟨S1x1x64x1x64, .i32⟩
  | 116 => ⟨S3x4x64x12x64, .i32⟩
  | 117 => ⟨S3x4x64x12x64, .i32⟩
  | 118 => ⟨S3x4x64x12x64, .i32⟩
  | 119 => ⟨S_, .i32⟩
  | 120 => ⟨S_, .i32⟩
  | 121 => ⟨S3x4x64x12x64, .i32⟩
  | 122 => ⟨S3x4x64x12x64, .i32⟩
  | 123 => ⟨S768x768, .i32⟩
  | 124 => ⟨S16x465, .f32⟩
  | 125 => ⟨S_, .i32⟩
  | 126 => ⟨S_, .f32⟩
  | 127 => ⟨S16x480, .f32⟩
  | _ => ⟨S8192x3072, .bf16⟩

abbrev hbmTy0_1 (i : Nat) : BufTy := match i % 128 with
  | 0 => ⟨S480, .i32⟩
  | 1 => ⟨S1x480, .i32⟩
  | 2 => ⟨S_, .i32⟩
  | 3 => ⟨S1x480, .i32⟩
  | 4 => ⟨S1x480, .i1⟩
  | 5 => ⟨S_, .f32⟩
  | 6 => ⟨S_, .f32⟩
  | 7 => ⟨S16x480, .f32⟩
  | 8 => ⟨S16x480, .f32⟩
  | 9 => ⟨S_, .f32⟩
  | 10 => ⟨S_, .f32⟩
  | 11 => ⟨S16x480, .i1⟩
  | 12 => ⟨S16x480, .f32⟩
  | 13 => ⟨S16x480, .f32⟩
  | 14 => ⟨S768x768x1, .i32⟩
  | 15 => ⟨S16x768x768, .f32⟩
  | 16 => ⟨S2x8x3x256x768, .f32⟩
  | 17 => ⟨S2x3x8x256x768, .f32⟩
  | 18 => ⟨S4x2048x3072, .bf16⟩
  | 19 => ⟨S4x256x3072, .bf16⟩
  | 20 => ⟨S4x2048x1024, .bf16⟩
  | _ => ⟨S8192x3072, .bf16⟩

abbrev hbmTy (i : Nat) : BufTy := match i / 128 with
  | 0 => hbmTy0_0 i
  | 1 => hbmTy0_1 i
  | _ => ⟨S8192x3072, .bf16⟩

abbrev bufTy : (tb : Table) → Fin (tcTables nBuf tb) → BufTy
  | .hbm, ⟨i, _⟩ => hbmTy i
  | .local _ .vmem, ⟨0, _⟩ => ⟨S1x256x1024, .bf16⟩
  | .local _ .vmem, ⟨1, _⟩ => ⟨S1x256x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x3x8x256x768, .f32⟩
  | .local _ .vmem, ⟨11, _⟩ => ⟨S1x256x1024, .bf16⟩
  | .local _ .vmem, ⟨12, _⟩ => ⟨S1x256x1024, .bf16⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_c_2 : Ref sig .tc := ⟨.hbm, 14, rfl⟩
abbrev main_v6 : Ref sig .tc := ⟨.hbm, 15, rfl⟩
abbrev main_v7 : Ref sig .tc := ⟨.hbm, 16, rfl⟩
abbrev main_c_3 : Ref sig .tc := ⟨.hbm, 17, rfl⟩
abbrev main_c_4 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v8 : Ref sig .tc := ⟨.hbm, 24, rfl⟩
abbrev main_v9 : Ref sig .tc := ⟨.hbm, 25, rfl⟩
abbrev main_c_5 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_c_7 : Ref sig .tc := ⟨.hbm, 45, rfl⟩
abbrev main_c_8 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_9 : Ref sig .tc := ⟨.hbm, 57, rfl⟩
abbrev main_v32 : Ref sig .tc := ⟨.hbm, 58, rfl⟩
abbrev main_v33 : Ref sig .tc := ⟨.hbm, 59, rfl⟩
abbrev main_c_10 : Ref sig .tc := ⟨.hbm, 60, rfl⟩
abbrev main_c_11 : Ref sig .tc := ⟨.hbm, 61, rfl⟩
abbrev main_call3_v0 : Ref sig .tc := ⟨.hbm, 62, rfl⟩
abbrev main_call3_v1 : Ref sig .tc := ⟨.hbm, 63, rfl⟩
abbrev main_call3_v2 : Ref sig .tc := ⟨.hbm, 64, rfl⟩
abbrev main_call3_v3 : Ref sig .tc := ⟨.hbm, 65, rfl⟩
abbrev main_call3_v4 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_c_12 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_c_13 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_c_14 : Ref sig .tc := ⟨.hbm, 91, rfl⟩
abbrev main_v56 : Ref sig .tc := ⟨.hbm, 92, rfl⟩
abbrev main_v57 : Ref sig .tc := ⟨.hbm, 93, rfl⟩
abbrev main_c_15 : Ref sig .tc := ⟨.hbm, 94, rfl⟩
abbrev main_v58 : Ref sig .tc := ⟨.hbm, 95, rfl⟩
abbrev main_v59 : Ref sig .tc := ⟨.hbm, 96, rfl⟩
abbrev main_c_16 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_c_17 : Ref sig .tc := ⟨.hbm, 103, rfl⟩
abbrev main_v65 : Ref sig .tc := ⟨.hbm, 104, rfl⟩
abbrev main_v66 : Ref sig .tc := ⟨.hbm, 105, rfl⟩
abbrev main_c_18 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_c_19 : Ref sig .tc := ⟨.hbm, 119, rfl⟩
abbrev main_call4_v0 : Ref sig .tc := ⟨.hbm, 120, rfl⟩
abbrev main_call4_v1 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_c_20 : Ref sig .tc := ⟨.hbm, 125, rfl⟩
abbrev main_call5_v0 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_c_21 : Ref sig .tc := ⟨.hbm, 130, rfl⟩
abbrev main_v85 : Ref sig .tc := ⟨.hbm, 131, rfl⟩
abbrev main_v86 : Ref sig .tc := ⟨.hbm, 132, rfl⟩
abbrev main_cst : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_cst_22 : Ref sig .tc := ⟨.hbm, 137, rfl⟩
abbrev main_call6_v0 : Ref sig .tc := ⟨.hbm, 138, rfl⟩
abbrev main_call6_v1 : Ref sig .tc := ⟨.hbm, 139, rfl⟩
abbrev main_call6_v2 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![1, 4, 8], ![false, false, false]⟩

def k0_mult1 (i : grid0.Coords) : BitVec 32 :=
  let c20_i32 : BitVec 32 := 20#32
  let c0_i32 : BitVec 32 := 0#32
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.subi v0 c4_i32_0
  let v2 : BitVec 32 := Scalar.maxsi c0_i32 v1
  let v3 : BitVec 32 := Scalar.minsi c20_i32 v2
  let c64_i32 : BitVec 32 := 64#32
  let v4 : BitVec 32 := Scalar.muli v3 c64_i32
  v4
def k0_off1 (i : grid0.Coords) : Fin 3 → Nat :=
  let c0_5 : Index := 0#32
  let c20_i32 : BitVec 32 := 20#32
  let c0_i32 : BitVec 32 := 0#32
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.subi v0 c4_i32_0
  let v2 : BitVec 32 := Scalar.maxsi c0_i32 v1
  let v3 : BitVec 32 := Scalar.minsi c20_i32 v2
  let c64_i32 : BitVec 32 := 64#32
  let v4 : BitVec 32 := Scalar.muli v3 c64_i32
  let v5 : BitVec 32 := v4
  let v12 : Index := Scalar.indexCast v5
  let c0_6 : Index := 0#32
  ![0, v12.toNat, 0]
def k0_off2 (i : grid0.Coords) : Fin 3 → Nat :=
  let c0_13 : Index := 0#32
  let c20_i32 : BitVec 32 := 20#32
  let c0_i32 : BitVec 32 := 0#32
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.subi v0 c4_i32_0
  let v2 : BitVec 32 := Scalar.maxsi c0_i32 v1
  let v3 : BitVec 32 := Scalar.minsi c20_i32 v2
  let c64_i32 : BitVec 32 := 64#32
  let v4 : BitVec 32 := Scalar.muli v3 c64_i32
  let v5 : BitVec 32 := v4
  let v21 : Index := Scalar.indexCast v5
  let c128_14 : Index := 128#32
  ![0, v21.toNat, 128]
def k0_off3 (i : grid0.Coords) : Fin 3 → Nat :=
  let c0_22 : Index := 0#32
  let c20_i32 : BitVec 32 := 20#32
  let c0_i32 : BitVec 32 := 0#32
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.subi v0 c4_i32_0
  let v2 : BitVec 32 := Scalar.maxsi c0_i32 v1
  let v3 : BitVec 32 := Scalar.minsi c20_i32 v2
  let c64_i32 : BitVec 32 := 64#32
  let v4 : BitVec 32 := Scalar.muli v3 c64_i32
  let v5 : BitVec 32 := v4
  let v30 : Index := Scalar.indexCast v5
  let c256_23 : Index := 256#32
  ![0, v30.toNat, 256]
def k0_off4 (i : grid0.Coords) : Fin 3 → Nat :=
  let c0_31 : Index := 0#32
  let c20_i32 : BitVec 32 := 20#32
  let c0_i32 : BitVec 32 := 0#32
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.subi v0 c4_i32_0
  let v2 : BitVec 32 := Scalar.maxsi c0_i32 v1
  let v3 : BitVec 32 := Scalar.minsi c20_i32 v2
  let c64_i32 : BitVec 32 := 64#32
  let v4 : BitVec 32 := Scalar.muli v3 c64_i32
  let v5 : BitVec 32 := v4
  let v39 : Index := Scalar.indexCast v5
  let c384_32 : Index := 384#32
  ![0, v39.toNat, 384]
def k0_off5 (i : grid0.Coords) : Fin 5 → Nat :=
  let c0_39 : Index := 0#32
  let arg2 : BitVec 32 := BitVec.ofNat 32 (i 2).val
  let c0_i32_1 : BitVec 32 := 0#32
  let v6 : BitVec 1 := Scalar.cmpi .eq arg2 c0_i32_1
  let c0_i32_2 : BitVec 32 := 0#32
  let c7_i32 : BitVec 32 := 7#32
  let v7 : BitVec 1 := Scalar.cmpi .eq arg2 c7_i32
  let c2_i32 : BitVec 32 := 2#32
  let c1_i32 : BitVec 32 := 1#32
  let v8 : BitVec 32 := Scalar.select v7 c2_i32 c1_i32
  let v9 : BitVec 32 := Scalar.select v6 c0_i32_2 v8
  let v48 : Index := Scalar.indexCast v9
  let c0_40 : Index := 0#32
  let c0_41 : Index := 0#32
  let c0_42 : Index := 0#32
  ![0, v48.toNat, 0, 0, 0]
def k0_off6 (i : grid0.Coords) : Fin 3 → Nat :=
  let c0_61 : Index := 0#32
  let c20_i32 : BitVec 32 := 20#32
  let c0_i32 : BitVec 32 := 0#32
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.subi v0 c4_i32_0
  let v2 : BitVec 32 := Scalar.maxsi c0_i32 v1
  let v3 : BitVec 32 := Scalar.minsi c20_i32 v2
  let c64_i32 : BitVec 32 := 64#32
  let v4 : BitVec 32 := Scalar.muli v3 c64_i32
  let v5 : BitVec 32 := v4
  let v90 : Index := Scalar.indexCast v5
  let c512_62 : Index := 512#32
  ![0, v90.toNat, 512]
def k0_off7 (i : grid0.Coords) : Fin 5 → Nat :=
  let c0_69 : Index := 0#32
  let arg2 : BitVec 32 := BitVec.ofNat 32 (i 2).val
  let c0_i32_1 : BitVec 32 := 0#32
  let v6 : BitVec 1 := Scalar.cmpi .eq arg2 c0_i32_1
  let c0_i32_2 : BitVec 32 := 0#32
  let c7_i32 : BitVec 32 := 7#32
  let v7 : BitVec 1 := Scalar.cmpi .eq arg2 c7_i32
  let c2_i32 : BitVec 32 := 2#32
  let c1_i32 : BitVec 32 := 1#32
  let v8 : BitVec 32 := Scalar.select v7 c2_i32 c1_i32
  let v9 : BitVec 32 := Scalar.select v6 c0_i32_2 v8
  let v99 : Index := Scalar.indexCast v9
  let c1 : Index := 1#32
  let c0_70 : Index := 0#32
  let c0_71 : Index := 0#32
  ![0, v99.toNat, 1, 0, 0]
def k0_off8 (i : grid0.Coords) : Fin 3 → Nat :=
  let c0_90 : Index := 0#32
  let c20_i32 : BitVec 32 := 20#32
  let c0_i32 : BitVec 32 := 0#32
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.subi v0 c4_i32_0
  let v2 : BitVec 32 := Scalar.maxsi c0_i32 v1
  let v3 : BitVec 32 := Scalar.minsi c20_i32 v2
  let c64_i32 : BitVec 32 := 64#32
  let v4 : BitVec 32 := Scalar.muli v3 c64_i32
  let v5 : BitVec 32 := v4
  let v141 : Index := Scalar.indexCast v5
  let c640_91 : Index := 640#32
  ![0, v141.toNat, 640]
def k0_off9 (i : grid0.Coords) : Fin 5 → Nat :=
  let c0_98 : Index := 0#32
  let arg2 : BitVec 32 := BitVec.ofNat 32 (i 2).val
  let c0_i32_1 : BitVec 32 := 0#32
  let v6 : BitVec 1 := Scalar.cmpi .eq arg2 c0_i32_1
  let c0_i32_2 : BitVec 32 := 0#32
  let c7_i32 : BitVec 32 := 7#32
  let v7 : BitVec 1 := Scalar.cmpi .eq arg2 c7_i32
  let c2_i32 : BitVec 32 := 2#32
  let c1_i32 : BitVec 32 := 1#32
  let v8 : BitVec 32 := Scalar.select v7 c2_i32 c1_i32
  let v9 : BitVec 32 := Scalar.select v6 c0_i32_2 v8
  let v150 : Index := Scalar.indexCast v9
  let c2 : Index := 2#32
  let c0_99 : Index := 0#32
  let c0_100 : Index := 0#32
  ![0, v150.toNat, 2, 0, 0]
def k0_off10 (i : grid0.Coords) : Fin 3 → Nat :=
  let c0_119 : Index := 0#32
  let c20_i32 : BitVec 32 := 20#32
  let c0_i32 : BitVec 32 := 0#32
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.subi v0 c4_i32_0
  let v2 : BitVec 32 := Scalar.maxsi c0_i32 v1
  let v3 : BitVec 32 := Scalar.minsi c20_i32 v2
  let c64_i32 : BitVec 32 := 64#32
  let v4 : BitVec 32 := Scalar.muli v3 c64_i32
  let v5 : BitVec 32 := v4
  let v192 : Index := Scalar.indexCast v5
  let c768_120 : Index := 768#32
  ![0, v192.toNat, 768]
def k0_off11 (i : grid0.Coords) : Fin 5 → Nat :=
  let c0_127 : Index := 0#32
  let arg2 : BitVec 32 := BitVec.ofNat 32 (i 2).val
  let c0_i32_1 : BitVec 32 := 0#32
  let v6 : BitVec 1 := Scalar.cmpi .eq arg2 c0_i32_1
  let c0_i32_2 : BitVec 32 := 0#32
  let c7_i32 : BitVec 32 := 7#32
  let v7 : BitVec 1 := Scalar.cmpi .eq arg2 c7_i32
  let c2_i32 : BitVec 32 := 2#32
  let c1_i32 : BitVec 32 := 1#32
  let v8 : BitVec 32 := Scalar.select v7 c2_i32 c1_i32
  let v9 : BitVec 32 := Scalar.select v6 c0_i32_2 v8
  let v201 : Index := Scalar.indexCast v9
  let c3 : Index := 3#32
  let c0_128 : Index := 0#32
  let c0_129 : Index := 0#32
  ![0, v201.toNat, 3, 0, 0]
def k0_off12 (i : grid0.Coords) : Fin 3 → Nat :=
  let c0_148 : Index := 0#32
  let c20_i32 : BitVec 32 := 20#32
  let c0_i32 : BitVec 32 := 0#32
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.subi v0 c4_i32_0
  let v2 : BitVec 32 := Scalar.maxsi c0_i32 v1
  let v3 : BitVec 32 := Scalar.minsi c20_i32 v2
  let c64_i32 : BitVec 32 := 64#32
  let v4 : BitVec 32 := Scalar.muli v3 c64_i32
  let v5 : BitVec 32 := v4
  let v243 : Index := Scalar.indexCast v5
  let c896_149 : Index := 896#32
  ![0, v243.toNat, 896]
def k0_off13 (i : grid0.Coords) : Fin 5 → Nat :=
  let c0_156 : Index := 0#32
  let arg2 : BitVec 32 := BitVec.ofNat 32 (i 2).val
  let c0_i32_1 : BitVec 32 := 0#32
  let v6 : BitVec 1 := Scalar.cmpi .eq arg2 c0_i32_1
  let c0_i32_2 : BitVec 32 := 0#32
  let c7_i32 : BitVec 32 := 7#32
  let v7 : BitVec 1 := Scalar.cmpi .eq arg2 c7_i32
  let c2_i32 : BitVec 32 := 2#32
  let c1_i32 : BitVec 32 := 1#32
  let v8 : BitVec 32 := Scalar.select v7 c2_i32 c1_i32
  let v9 : BitVec 32 := Scalar.select v6 c0_i32_2 v8
  let v252 : Index := Scalar.indexCast v9
  let c4 : Index := 4#32
  let c0_157 : Index := 0#32
  let c0_158 : Index := 0#32
  ![0, v252.toNat, 4, 0, 0]
def k0_off14 (i : grid0.Coords) : Fin 5 → Nat :=
  let c0_176 : Index := 0#32
  let arg2 : BitVec 32 := BitVec.ofNat 32 (i 2).val
  let c0_i32_1 : BitVec 32 := 0#32
  let v6 : BitVec 1 := Scalar.cmpi .eq arg2 c0_i32_1
  let c0_i32_2 : BitVec 32 := 0#32
  let c7_i32 : BitVec 32 := 7#32
  let v7 : BitVec 1 := Scalar.cmpi .eq arg2 c7_i32
  let c2_i32 : BitVec 32 := 2#32
  let c1_i32 : BitVec 32 := 1#32
  let v8 : BitVec 32 := Scalar.select v7 c2_i32 c1_i32
  let v9 : BitVec 32 := Scalar.select v6 c0_i32_2 v8
  let v294 : Index := Scalar.indexCast v9
  let c5 : Index := 5#32
  let c0_177 : Index := 0#32
  let c0_178 : Index := 0#32
  ![0, v294.toNat, 5, 0, 0]
def k0_off15 (i : grid0.Coords) : Fin 5 → Nat :=
  let c0_196 : Index := 0#32
  let arg2 : BitVec 32 := BitVec.ofNat 32 (i 2).val
  let c0_i32_1 : BitVec 32 := 0#32
  let v6 : BitVec 1 := Scalar.cmpi .eq arg2 c0_i32_1
  let c0_i32_2 : BitVec 32 := 0#32
  let c7_i32 : BitVec 32 := 7#32
  let v7 : BitVec 1 := Scalar.cmpi .eq arg2 c7_i32
  let c2_i32 : BitVec 32 := 2#32
  let c1_i32 : BitVec 32 := 1#32
  let v8 : BitVec 32 := Scalar.select v7 c2_i32 c1_i32
  let v9 : BitVec 32 := Scalar.select v6 c0_i32_2 v8
  let v336 : Index := Scalar.indexCast v9
  let c6 : Index := 6#32
  let c0_197 : Index := 0#32
  let c0_198 : Index := 0#32
  ![0, v336.toNat, 6, 0, 0]
def k0_off16 (i : grid0.Coords) : Fin 5 → Nat :=
  let c0_216 : Index := 0#32
  let arg2 : BitVec 32 := BitVec.ofNat 32 (i 2).val
  let c0_i32_1 : BitVec 32 := 0#32
  let v6 : BitVec 1 := Scalar.cmpi .eq arg2 c0_i32_1
  let c0_i32_2 : BitVec 32 := 0#32
  let c7_i32 : BitVec 32 := 7#32
  let v7 : BitVec 1 := Scalar.cmpi .eq arg2 c7_i32
  let c2_i32 : BitVec 32 := 2#32
  let c1_i32 : BitVec 32 := 1#32
  let v8 : BitVec 32 := Scalar.select v7 c2_i32 c1_i32
  let v9 : BitVec 32 := Scalar.select v6 c0_i32_2 v8
  let v378 : Index := Scalar.indexCast v9
  let c7 : Index := 7#32
  let c0_217 : Index := 0#32
  let c0_218 : Index := 0#32
  ![0, v378.toNat, 7, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg0
  let c0_i32 : BitVec 32 := 0#32
  let c0_i32_0 : BitVec 32 := 0#32
  ![arg1.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c0_i32 : BitVec 32 := 0#32
  let c0_i32_0 : BitVec 32 := 0#32
  ![arg1.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg0
  let c0_i32 : BitVec 32 := 0#32
  let c0_i32_0 : BitVec 32 := 0#32
  ![arg1.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c0_i32 : BitVec 32 := 0#32
  let c0_i32_0 : BitVec 32 := 0#32
  ![arg1.toNat, c0_i32.toNat, v0.toNat]

def cc0_transform_5 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x3x8x256x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false, false]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "scale2" => some (((Real.sqrt 128)⁻¹ * (Real.log 2)⁻¹ : ℝ) : EReal)
  | _ => none
-- ==== ReferenceIdeal.lean ====
abbrev S8192x3072 : Shape := ⟨2, ![8192, 3072]⟩
abbrev S1024x3072 : Shape := ⟨2, ![1024, 3072]⟩
abbrev S2x8x15x31 : Shape := ⟨4, ![2, 8, 15, 31]⟩
abbrev S4x2048x3072 : Shape := ⟨3, ![4, 2048, 3072]⟩
abbrev S4x2048x1024 : Shape := ⟨3, ![4, 2048, 1024]⟩
abbrev S4x2048x8x128 : Shape := ⟨4, ![4, 2048, 8, 128]⟩
abbrev S4x8x2048x128 : Shape := ⟨4, ![4, 8, 2048, 128]⟩
abbrev S4x256x3072 : Shape := ⟨3, ![4, 256, 3072]⟩
abbrev S4x256x1024 : Shape := ⟨3, ![4, 256, 1024]⟩
abbrev S4x256x8x128 : Shape := ⟨4, ![4, 256, 8, 128]⟩
abbrev S4x8x256x128 : Shape := ⟨4, ![4, 8, 256, 128]⟩
abbrev S32 : Shape := ⟨1, ![32]⟩
abbrev S32x1 : Shape := ⟨2, ![32, 1]⟩
abbrev S1x32 : Shape := ⟨2, ![1, 32]⟩
abbrev S_ : Shape := ⟨0, ![]⟩
abbrev S32x32 : Shape := ⟨2, ![32, 32]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S32x1x32x1 : Shape := ⟨4, ![32, 1, 32, 1]⟩
abbrev S1x64x1x64 : Shape := ⟨4, ![1, 64, 1, 64]⟩
abbrev S32x64x32x64 : Shape := ⟨4, ![32, 64, 32, 64]⟩
abbrev S1x8x15x31 : Shape := ⟨4, ![1, 8, 15, 31]⟩
abbrev S8x15x31 : Shape := ⟨3, ![8, 15, 31]⟩
abbrev S32x64x32x64x1 : Shape := ⟨5, ![32, 64, 32, 64, 1]⟩
abbrev S32x64x32x64x2 : Shape := ⟨5, ![32, 64, 32, 64, 2]⟩
abbrev S8x32x64x32x64 : Shape := ⟨5, ![8, 32, 64, 32, 64]⟩
abbrev S8x2048x2048 : Shape := ⟨3, ![8, 2048, 2048]⟩
abbrev S4x8x2048x2048 : Shape := ⟨4, ![4, 8, 2048, 2048]⟩
abbrev S1x8x2048x2048 : Shape := ⟨4, ![1, 8, 2048, 2048]⟩
abbrev S4x8x2048x256 : Shape := ⟨4, ![4, 8, 2048, 256]⟩
abbrev S4x8x2048x2304 : Shape := ⟨4, ![4, 8, 2048, 2304]⟩
abbrev S4x8x2048 : Shape := ⟨3, ![4, 8, 2048]⟩
abbrev S4x8x2048x1 : Shape := ⟨4, ![4, 8, 2048, 1]⟩

abbrev nBuf : Space → Nat
  | .hbm => 180
  | .vmem => 0
  | .smem => 0
  | _ => 0

abbrev hbmTy0_0 (i : Nat) : BufTy := match i % 128 with
  | 0 => ⟨S8192x3072, .bf16⟩
  | 1 => ⟨S1024x3072, .bf16⟩
  | 2 => ⟨S2x8x15x31, .f32⟩
  | 3 => ⟨S8192x3072, .f32⟩
  | 4 => ⟨S4x2048x3072, .f32⟩
  | 5 => ⟨S4x2048x1024, .f32⟩
  | 6 => ⟨S4x2048x1024, .f32⟩
  | 7 => ⟨S4x2048x1024, .f32⟩
  | 8 => ⟨S4x2048x8x128, .f32⟩
  | 9 => ⟨S4x8x2048x128, .f32⟩
  | 10 => ⟨S4x2048x8x128, .f32⟩
  | 11 => ⟨S4x8x2048x128, .f32⟩
  | 12 => ⟨S4x2048x8x128, .f32⟩
  | 13 => ⟨S4x8x2048x128, .f32⟩
  | 14 => ⟨S1024x3072, .f32⟩
  | 15 => ⟨S4x256x3072, .f32⟩
  | 16 => ⟨S4x256x1024, .f32⟩
  | 17 => ⟨S4x256x1024, .f32⟩
  | 18 => ⟨S4x256x1024, .f32⟩
  | 19 => ⟨S4x256x8x128, .f32⟩
  | 20 => ⟨S4x8x256x128, .f32⟩
  | 21 => ⟨S4x256x8x128, .f32⟩
  | 22 => ⟨S4x8x256x128, .f32⟩
  | 23 => ⟨S4x256x8x128, .f32⟩
  | 24 => ⟨S4x8x256x128, .f32⟩
  | 25 => ⟨S32, .i32⟩
  | 26 => ⟨S32x1, .i32⟩
  | 27 => ⟨S32, .i32⟩
  | 28 => ⟨S1x32, .i32⟩
  | 29 => ⟨S_, .i32⟩
  | 30 => ⟨S32x1, .i32⟩
  | 31 => ⟨S32x1, .i32⟩
  | 32 => ⟨S_, .i32⟩
  | 33 => ⟨S_, .i32⟩
  | 34 => ⟨S_, .i32⟩
  | 35 => ⟨S32x1, .i32⟩
  | 36 => ⟨S32x1, .i32⟩
  | 37 => ⟨S_, .i32⟩
  | 38 => ⟨S32x1, .i32⟩
  | 39 => ⟨S32x1, .i32⟩
  | 40 => ⟨S32x32, .i32⟩
  | 41 => ⟨S32x32, .i32⟩
  | 42 => ⟨S32x32, .i1⟩
  | 43 => ⟨S_, .i32⟩
  | 44 => ⟨S32x1, .i32⟩
  | 45 => ⟨S32x1, .i32⟩
  | 46 => ⟨S32x32, .i32⟩
  | 47 => ⟨S32x32, .i32⟩
  | 48 => ⟨S32x32, .i1⟩
  | 49 => ⟨S32x32, .i1⟩
  | 50 => ⟨S32x32, .i32⟩
  | 51 => ⟨S32x32, .i32⟩
  | 52 => ⟨S32x32, .i32⟩
  | 53 => ⟨S_, .i32⟩
  | 54 => ⟨S32x32, .i32⟩
  | 55 => ⟨S32x32, .i32⟩
  | 56 => ⟨S_, .i32⟩
  | 57 => ⟨S32x32, .i32⟩
  | 58 => ⟨S32x32, .i32⟩
  | 59 => ⟨S_, .i32⟩
  | 60 => ⟨S_, .i32⟩
  | 61 => ⟨S_, .i32⟩
  | 62 => ⟨S32x32, .i32⟩
  | 63 => ⟨S32x32, .i32⟩
  | 64 => ⟨S_, .i32⟩
  | 65 => ⟨S32x32, .i32⟩
  | 66 => ⟨S32x32, .i32⟩
  | 67 => ⟨S64, .i32⟩
  | 68 => ⟨S64x1, .i32⟩
  | 69 => ⟨S64, .i32⟩
  | 70 => ⟨S1x64, .i32⟩
  | 71 => ⟨S_, .i32⟩
  | 72 => ⟨S64x1, .i32⟩
  | 73 => ⟨S64x1, .i32⟩
  | 74 => ⟨S_, .i32⟩
  | 75 => ⟨S_, .i32⟩
  | 76 => ⟨S_, .i32⟩
  | 77 => ⟨S64x1, .i32⟩
  | 78 => ⟨S64x1, .i32⟩
  | 79 => ⟨S_, .i32⟩
  | 80 => ⟨S64x1, .i32⟩
  | 81 => ⟨S64x1, .i32⟩
  | 82 => ⟨S64x64, .i32⟩
  | 83 => ⟨S64x64, .i32⟩
  | 84 => ⟨S64x64, .i1⟩
  | 85 => ⟨S_, .i32⟩
  | 86 => ⟨S64x1, .i32⟩
  | 87 => ⟨S64x1, .i32⟩
  | 88 => ⟨S64x64, .i32⟩
  | 89 => ⟨S64x64, .i32⟩
  | 90 => ⟨S64x64, .i1⟩
  | 91 => ⟨S64x64, .i1⟩
  | 92 => ⟨S64x64, .i32⟩
  | 93 => ⟨S64x64, .i32⟩
  | 94 => ⟨S64x64, .i32⟩
  | 95 => ⟨S_, .i32⟩
  | 96 => ⟨S64x64, .i32⟩
  | 97 => ⟨S64x64, .i32⟩
  | 98 => ⟨S_, .i32⟩
  | 99 => ⟨S64x64, .i32⟩
  | 100 => ⟨S64x64, .i32⟩
  | 101 => ⟨S_, .i32⟩
  | 102 => ⟨S_, .i32⟩
  | 103 => ⟨S_, .i32⟩
  | 104 => ⟨S64x64, .i32⟩
  | 105 => ⟨S64x64, .i32⟩
  | 106 => ⟨S_, .i32⟩
  | 107 => ⟨S64x64, .i32⟩
  | 108 => ⟨S64x64, .i32⟩
  | 109 => ⟨S32x1x32x1, .i1⟩
  | 110 => ⟨S1x64x1x64, .i1⟩
  | 111 => ⟨S32x64x32x64, .i1⟩
  | 112 => ⟨S32x64x32x64, .i1⟩
  | 113 => ⟨S32x64x32x64, .i1⟩
  | 114 => ⟨S1x8x15x31, .f32⟩
  | 115 => ⟨S8x15x31, .f32⟩
  | 116 => ⟨S32x1x32x1, .i32⟩
  | 117 => ⟨S1x64x1x64, .i32⟩
  | 118 => ⟨S_, .i32⟩
  | 119 => ⟨S32x1x32x1, .i32⟩
  | 120 => ⟨S32x1x32x1, .i1⟩
  | 121 => ⟨S_, .i32⟩
  | 122 => ⟨S32x1x32x1, .i32⟩
  | 123 => ⟨S32x1x32x1, .i32⟩
  | 124 => ⟨S32x1x32x1, .i32⟩
  | 125 => ⟨S_, .i32⟩
  | 126 => ⟨S1x64x1x64, .i32⟩
  | 127 => ⟨S1x64x1x64, .i1⟩
  | _ => ⟨S8192x3072, .bf16⟩

abbrev hbmTy0_1 (i : Nat) : BufTy := match i % 128 with
  | 0 => ⟨S_, .i32⟩
  | 1 => ⟨S1x64x1x64, .i32⟩
  | 2 => ⟨S1x64x1x64, .i32⟩
  | 3 => ⟨S1x64x1x64, .i32⟩
  | 4 => ⟨S32x64x32x64, .i32⟩
  | 5 => ⟨S32x64x32x64, .i32⟩
  | 6 => ⟨S32x64x32x64x1, .i32⟩
  | 7 => ⟨S32x64x32x64x1, .i32⟩
  | 8 => ⟨S32x64x32x64x2, .i32⟩
  | 9 => ⟨S8x32x64x32x64, .f32⟩
  | 10 => ⟨S_, .f32⟩
  | 11 => ⟨S_, .f32⟩
  | 12 => ⟨S8x32x64x32x64, .i1⟩
  | 13 => ⟨S8x32x64x32x64, .f32⟩
  | 14 => ⟨S8x32x64x32x64, .f32⟩
  | 15 => ⟨S8x2048x2048, .f32⟩
  | 16 => ⟨S_, .f32⟩
  | 17 => ⟨S_, .f32⟩
  | 18 => ⟨S_, .f32⟩
  | 19 => ⟨S_, .f32⟩
  | 20 => ⟨S4x8x2048x2048, .f32⟩
  | 21 => ⟨S4x8x2048x2048, .f32⟩
  | 22 => ⟨S4x8x2048x2048, .f32⟩
  | 23 => ⟨S1x8x2048x2048, .f32⟩
  | 24 => ⟨S4x8x2048x2048, .f32⟩
  | 25 => ⟨S4x8x2048x2048, .f32⟩
  | 26 => ⟨S4x8x2048x256, .f32⟩
  | 27 => ⟨S4x8x2048x256, .f32⟩
  | 28 => ⟨S4x8x2048x256, .f32⟩
  | 29 => ⟨S4x8x2048x2304, .f32⟩
  | 30 => ⟨S_, .f32⟩
  | 31 => ⟨S4x8x2048, .f32⟩
  | 32 => ⟨S_, .f32⟩
  | 33 => ⟨S4x8x2048, .f32⟩
  | 34 => ⟨S4x8x2048, .f32⟩
  | 35 => ⟨S4x8x2048x1, .f32⟩
  | 36 => ⟨S4x8x2048x2304, .f32⟩
  | 37 => ⟨S4x8x2048x2304, .f32⟩
  | 38 => ⟨S4x8x2048x2304, .f32⟩
  | 39 => ⟨S_, .f32⟩
  | 40 => ⟨S4x8x2048, .f32⟩
  | 41 => ⟨S4x8x2048x1, .f32⟩
  | 42 => ⟨S4x8x2048x2304, .f32⟩
  | 43 => ⟨S4x8x2048x2304, .f32⟩
  | 44 => ⟨S4x8x2048x2048, .f32⟩
  | 45 => ⟨S4x8x2048x128, .f32⟩
  | 46 => ⟨S4x8x2048x256, .f32⟩
  | 47 => ⟨S4x8x2048x128, .f32⟩
  | 48 => ⟨S4x8x2048x128, .f32⟩
  | 49 => ⟨S4x2048x8x128, .f32⟩
  | 50 => ⟨S4x2048x1024, .f32⟩
  | 51 => ⟨S4x2048x1024, .bf16⟩
  | _ => ⟨S8192x3072, .bf16⟩

abbrev hbmTy (i : Nat) : BufTy := match i / 128 with
  | 0 => hbmTy0_0 i
  | 1 => hbmTy0_1 i
  | _ => ⟨S8192x3072, .bf16⟩

abbrev bufTy : (tb : Table) → Fin (tcTables nBuf tb) → BufTy
  | .hbm, ⟨i, _⟩ => hbmTy i
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_c : Ref sig .tc := ⟨.hbm, 29, rfl⟩
abbrev main_v26 : Ref sig .tc := ⟨.hbm, 30, rfl⟩
abbrev main_v27 : Ref sig .tc := ⟨.hbm, 31, rfl⟩
abbrev main_c_0 : Ref sig .tc := ⟨.hbm, 32, rfl⟩
abbrev main_c_1 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_2 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_c_3 : Ref sig .tc := ⟨.hbm, 53, rfl⟩
abbrev main_v41 : Ref sig .tc := ⟨.hbm, 54, rfl⟩
abbrev main_v42 : Ref sig .tc := ⟨.hbm, 55, rfl⟩
abbrev main_c_4 : Ref sig .tc := ⟨.hbm, 56, rfl⟩
abbrev main_v43 : Ref sig .tc := ⟨.hbm, 57, rfl⟩
abbrev main_v44 : Ref sig .tc := ⟨.hbm, 58, rfl⟩
abbrev main_c_5 : Ref sig .tc := ⟨.hbm, 59, rfl⟩
abbrev main_c_6 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_7 : Ref sig .tc := ⟨.hbm, 71, rfl⟩
abbrev main_v50 : Ref sig .tc := ⟨.hbm, 72, rfl⟩
abbrev main_v51 : Ref sig .tc := ⟨.hbm, 73, rfl⟩
abbrev main_c_8 : Ref sig .tc := ⟨.hbm, 74, rfl⟩
abbrev main_c_9 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_c_10 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_c_11 : Ref sig .tc := ⟨.hbm, 95, rfl⟩
abbrev main_v65 : Ref sig .tc := ⟨.hbm, 96, rfl⟩
abbrev main_v66 : Ref sig .tc := ⟨.hbm, 97, rfl⟩
abbrev main_c_12 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_c_14 : Ref sig .tc := ⟨.hbm, 102, rfl⟩
abbrev main_call3_v0 : Ref sig .tc := ⟨.hbm, 103, rfl⟩
abbrev main_call3_v1 : Ref sig .tc := ⟨.hbm, 104, rfl⟩
abbrev main_call3_v2 : Ref sig .tc := ⟨.hbm, 105, rfl⟩
abbrev main_call3_v3 : Ref sig .tc := ⟨.hbm, 106, rfl⟩
abbrev main_call3_v4 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_c_15 : Ref sig .tc := ⟨.hbm, 118, rfl⟩
abbrev main_v79 : Ref sig .tc := ⟨.hbm, 119, rfl⟩
abbrev main_v80 : Ref sig .tc := ⟨.hbm, 120, rfl⟩
abbrev main_c_16 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_c_17 : Ref sig .tc := ⟨.hbm, 125, rfl⟩
abbrev main_v84 : Ref sig .tc := ⟨.hbm, 126, rfl⟩
abbrev main_v85 : Ref sig .tc := ⟨.hbm, 127, rfl⟩
abbrev main_c_18 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_cst : Ref sig .tc := ⟨.hbm, 138, rfl⟩
abbrev main_call4_v0 : Ref sig .tc := ⟨.hbm, 139, rfl⟩
abbrev main_call4_v1 : Ref sig .tc := ⟨.hbm, 140, rfl⟩
abbrev main_call4_v2 : Ref sig .tc := ⟨.hbm, 141, rfl⟩
abbrev main_v95 : Ref sig .tc := ⟨.hbm, 142, rfl⟩
abbrev main_v96 : Ref sig .tc := ⟨.hbm, 143, rfl⟩
abbrev main_cst_19 : Ref sig .tc := ⟨.hbm, 144, rfl⟩
abbrev main_v97 : Ref sig .tc := ⟨.hbm, 145, rfl⟩
abbrev main_cst_20 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_cst_21 : Ref sig .tc := ⟨.hbm, 158, rfl⟩
abbrev main_v109 : Ref sig .tc := ⟨.hbm, 159, rfl⟩
abbrev main_cst_22 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_cst_23 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩

abbrev nD : Nat := 1
abbrev τ : Topo := Topo.v7x

variable {F : FTy → Type} [FloatOps F]
-- ==== Projection.lean ====
abbrev S8192x2048 : Shape := ⟨2, ![8192, 2048]⟩
abbrev S2x2048x14336 : Shape := ⟨3, ![2, 2048, 14336]⟩
abbrev S8192x8192 : Shape := ⟨2, ![8192, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x2048x14336, .f32⟩
  | .hbm, ⟨2, _⟩ => ⟨S8192x8192, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjectionReferenceIdeal.lean ====
abbrev S8192x2048 : Shape := ⟨2, ![8192, 2048]⟩
abbrev S2x2048x14336 : Shape := ⟨3, ![2, 2048, 14336]⟩
abbrev S1x2048x14336 : Shape := ⟨3, ![1, 2048, 14336]⟩
abbrev S2048x14336 : Shape := ⟨2, ![2048, 14336]⟩
abbrev S8192x14336 : Shape := ⟨2, ![8192, 14336]⟩
abbrev S8192x8192 : Shape := ⟨2, ![8192, 8192]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x14336, .f32⟩
  | .hbm, ⟨2, _⟩ => ⟨S8192x2048, .f32⟩
  | .hbm, ⟨3, _⟩ => ⟨S1x2048x14336, .f32⟩
  | .hbm, ⟨4, _⟩ => ⟨S2048x14336, .f32⟩
  | .hbm, ⟨5, _⟩ => ⟨S8192x14336, .f32⟩
  | .hbm, ⟨6, _⟩ => ⟨S8192x8192, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Experts.lean ====
abbrev S16x1024x1024 : Shape := ⟨3, ![16, 1024, 1024]⟩
abbrev S16x1024x128 : Shape := ⟨3, ![16, 1024, 128]⟩
abbrev S2x16x2048x2048 : Shape := ⟨4, ![2, 16, 2048, 2048]⟩
abbrev S16x1024x2048 : Shape := ⟨3, ![16, 1024, 2048]⟩
abbrev S1x1024x1024 : Shape := ⟨3, ![1, 1024, 1024]⟩
abbrev S1x1024x128 : Shape := ⟨3, ![1, 1024, 128]⟩
abbrev S1x1x2048x512 : Shape := ⟨4, ![1, 1, 2048, 512]⟩
abbrev S1x1024x512 : Shape := ⟨3, ![1, 1024, 512]⟩
abbrev S4x1024x512 : Shape := ⟨3, ![4, 1024, 512]⟩
abbrev S1024x2048 : Shape := ⟨2, ![1024, 2048]⟩
abbrev S1024x1024 : Shape := ⟨2, ![1024, 1024]⟩
abbrev S2048x512 : Shape := ⟨2, ![2048, 512]⟩
abbrev S1024x512 : Shape := ⟨2, ![1024, 512]⟩
abbrev S512x512 : Shape := ⟨2, ![512, 512]⟩
abbrev S1x1024x1 : Shape := ⟨3, ![1, 1024, 1]⟩
abbrev S1024x1 : Shape := ⟨2, ![1024, 1]⟩

abbrev nBuf : Space → Nat
  | .hbm => 6
  | .vmem => 14
  | .smem => 0
  | _ => 0

abbrev bufTy : (tb : Table) → Fin (tcTables nBuf tb) → BufTy
  | .hbm, ⟨0, _⟩ => ⟨S16x1024x1024, .i32⟩
  | .hbm, ⟨1, _⟩ => ⟨S16x1024x128, .f32⟩
  | .hbm, ⟨2, _⟩ => ⟨S2x16x2048x2048, .f32⟩
  | .hbm, ⟨3, _⟩ => ⟨S2x16x2048x2048, .f32⟩
  | .hbm, ⟨4, _⟩ => ⟨S2x16x2048x2048, .f32⟩
  | .hbm, ⟨5, _⟩ => ⟨S16x1024x2048, .bf16⟩
  | .local _ .vmem, ⟨0, _⟩ => ⟨S1x1024x1024, .i32⟩
  | .local _ .vmem, ⟨1, _⟩ => ⟨S1x1024x1024, .i32⟩
  | .local _ .vmem, ⟨2, _⟩ => ⟨S1x1024x128, .f32⟩
  | .local _ .vmem, ⟨3, _⟩ => ⟨S1x1024x128, .f32⟩
  | .local _ .vmem, ⟨4, _⟩ => ⟨S1x1x2048x512, .f32⟩
  | .local _ .vmem, ⟨5, _⟩ => ⟨S1x1x2048x512, .f32⟩
  | .local _ .vmem, ⟨6, _⟩ => ⟨S1x1x2048x512, .f32⟩
  | .local _ .vmem, ⟨7, _⟩ => ⟨S1x1x2048x512, .f32⟩
  | .local _ .vmem, ⟨8, _⟩ => ⟨S1x1x2048x512, .f32⟩
  | .local _ .vmem, ⟨9, _⟩ => ⟨S1x1x2048x512, .f32⟩
  | .local _ .vmem, ⟨10, _⟩ => ⟨S1x1024x512, .bf16⟩
  | .local _ .vmem, ⟨11, _⟩ => ⟨S1x1024x512, .bf16⟩
  | .local _ .vmem, ⟨12, _⟩ => ⟨S4x1024x512, .bf16⟩
  | .local _ .vmem, ⟨13, _⟩ => ⟨S1024x2048, .bf16⟩
  | _, _ => ⟨S16x1024x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c4_i32 : BitVec 32 := 4#32
  let v3 : BitVec 1 := Scalar.cmpi .slt arg1 c4_i32
  let v4 : BitVec 32 := Scalar.extui v3
  let c0_i32_1 : BitVec 32 := 0#32
  let v5 : BitVec 1 := Scalar.cmpi .ne v4 c0_i32_1
  v5

def k0_off1 (i : grid0.Coords) : Fin 3 → Nat :=
  let arg1 : BitVec 32 := BitVec.ofNat 32 (i 1).val
  let v22 : Index := Scalar.indexCast arg1
  let c0_14 : Index := 0#32
  let c0_15 : Index := 0#32
  ![v22.toNat, 0, 0]
def k0_cond3 (i : grid0.Coords) : BitVec 1 :=
  let arg1 : BitVec 32 := BitVec.ofNat 32 (i 1).val
  let c4_i32_2 : BitVec 32 := 4#32
  let v6 : BitVec 1 := Scalar.cmpi .sge arg1 c4_i32_2
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 1 := Scalar.cmpi .sge arg1 c4_i32
  let c1_i32 : BitVec 32 := 1#32
  let v1 : BitVec 32 := Scalar.addi arg0 c1_i32
  let c15_i32 : BitVec 32 := 15#32
  let v2 : BitVec 32 := Scalar.minsi v1 c15_i32
  let v3 : BitVec 32 := Scalar.select v0 v2 arg0
  let c3_i32 : BitVec 32 := 3#32
  let v4 : BitVec 32 := Scalar.minsi arg1 c3_i32
  let c0_i32 : BitVec 32 := 0#32
  let v5 : BitVec 32 := Scalar.select v0 c0_i32 v4
  let c1_i32_0 : BitVec 32 := 1#32
  let c0_i32_1 : BitVec 32 := 0#32
  let c0_i32_2 : BitVec 32 := 0#32
  ![c1_i32_0.toNat, v3.toNat, c0_i32_1.toNat, v5.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 1 := Scalar.cmpi .sge arg1 c4_i32
  let c1_i32 : BitVec 32 := 1#32
  let v1 : BitVec 32 := Scalar.addi arg0 c1_i32
  let c15_i32 : BitVec 32 := 15#32
  let v2 : BitVec 32 := Scalar.minsi v1 c15_i32
  let v3 : BitVec 32 := Scalar.select v0 v2 arg0
  let c3_i32 : BitVec 32 := 3#32
  let v4 : BitVec 32 := Scalar.minsi arg1 c3_i32
  let c0_i32 : BitVec 32 := 0#32
  let v5 : BitVec 32 := Scalar.select v0 c0_i32 v4
  let c1_i32_0 : BitVec 32 := 1#32
  let c0_i32_1 : BitVec 32 := 0#32
  let c0_i32_2 : BitVec 32 := 0#32
  ![c1_i32_0.toNat, v3.toNat, c0_i32_1.toNat, v5.toNat]

def cc0_transform_4 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c1_i32 : BitVec 32 := 1#32
  let v1 : BitVec 32 := Scalar.subi arg0 c1_i32
  let c0_i32 : BitVec 32 := 0#32
  let v2 : BitVec 32 := Scalar.maxsi v1 c0_i32
  let v3 : BitVec 32 := Scalar.select v0 v2 arg0
  let c4_i32_0 : BitVec 32 := 4#32
  let v4 : BitVec 32 := Scalar.subi arg1 c4_i32_0
  let c3_i32 : BitVec 32 := 3#32
  let v5 : BitVec 32 := Scalar.select v0 c3_i32 v4
  let c1_i32_1 : BitVec 32 := 1#32
  let c0_i32_2 : BitVec 32 := 0#32
  let c0_i32_3 : BitVec 32 := 0#32
  ![c1_i32_1.toNat, v3.toNat, c0_i32_2.toNat, v5.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  let c0_i32_1 : BitVec 32 := 0#32
  ![arg0.toNat, c0_i32_0.toNat, v1.toNat]

abbrev stage0_0 : Fin 2 → Memref sig .tc .vmem S1x1024x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ExpertsReferenceIdeal.lean ====
abbrev S16x1024x1024 : Shape := ⟨3, ![16, 1024, 1024]⟩
abbrev S16x1024x128 : Shape := ⟨3, ![16, 1024, 128]⟩
abbrev S2x16x2048x2048 : Shape := ⟨4, ![2, 16, 2048, 2048]⟩
abbrev S_ : Shape := ⟨0, ![]⟩
abbrev S16x1024x2048 : Shape := ⟨3, ![16, 1024, 2048]⟩
abbrev S1x16x2048x2048 : Shape := ⟨4, ![1, 16, 2048, 2048]⟩
abbrev S16x2048x2048 : Shape := ⟨3, ![16, 2048, 2048]⟩
abbrev S16x1024x1 : Shape := ⟨3, ![16, 1024, 1]⟩

abbrev nBuf : Space → Nat
  | .hbm => 37
  | .vmem => 0
  | .smem => 0
  | _ => 0

abbrev bufTy : (tb : Table) → Fin (tcTables nBuf tb) → BufTy
  | .hbm, ⟨0, _⟩ => ⟨S16x1024x1024, .i32⟩
  | .hbm, ⟨1, _⟩ => ⟨S16x1024x128, .f32⟩
  | .hbm, ⟨2, _⟩ => ⟨S2x16x2048x2048, .f32⟩
  | .hbm, ⟨3, _⟩ => ⟨S2x16x2048x2048, .f32⟩
  | .hbm, ⟨4, _⟩ => ⟨S2x16x2048x2048, .f32⟩
  | .hbm, ⟨5, _⟩ => ⟨S_, .i32⟩
  | .hbm, ⟨6, _⟩ => ⟨S16x1024x1024, .i32⟩
  | .hbm, ⟨7, _⟩ => ⟨S16x1024x1024, .i32⟩
  | .hbm, ⟨8, _⟩ => ⟨S16x1024x1024, .f32⟩
  | .hbm, ⟨9, _⟩ => ⟨S_, .i32⟩
  | .hbm, ⟨10, _⟩ => ⟨S16x1024x1024, .i32⟩
  | .hbm, ⟨11, _⟩ => ⟨S16x1024x1024, .i32⟩
  | .hbm, ⟨12, _⟩ => ⟨S16x1024x1024, .f32⟩
  | .hbm, ⟨13, _⟩ => ⟨S16x1024x2048, .f32⟩
  | .hbm, ⟨14, _⟩ => ⟨S1x16x2048x2048, .f32⟩
  | .hbm, ⟨15, _⟩ => ⟨S16x2048x2048, .f32⟩
  | .hbm, ⟨16, _⟩ => ⟨S16x1024x2048, .f32⟩
  | .hbm, ⟨17, _⟩ => ⟨S1x16x2048x2048, .f32⟩
  | .hbm, ⟨18, _⟩ => ⟨S16x2048x2048, .f32⟩
  | .hbm, ⟨19, _⟩ => ⟨S16x1024x2048, .f32⟩
  | .hbm, ⟨20, _⟩ => ⟨S16x1024x2048, .f32⟩
  | .hbm, ⟨21, _⟩ => ⟨S16x1024x2048, .f32⟩
  | .hbm, ⟨22, _⟩ => ⟨S_, .f32⟩
  | .hbm, ⟨23, _⟩ => ⟨S16x1024x2048, .f32⟩
  | .hbm, ⟨24, _⟩ => ⟨S16x1024x2048, .f32⟩
  | .hbm, ⟨25, _⟩ => ⟨S_, .f32⟩
  | .hbm, ⟨26, _⟩ => ⟨S16x1024x2048, .f32⟩
  | .hbm, ⟨27, _⟩ => ⟨S16x1024x2048, .f32⟩
  | .hbm, ⟨28, _⟩ => ⟨S16x1024x2048, .f32⟩
  | .hbm, ⟨29, _⟩ => ⟨S16x1024x2048, .f32⟩
  | .hbm, ⟨30, _⟩ => ⟨S1x16x2048x2048, .f32⟩
  | .hbm, ⟨31, _⟩ => ⟨S16x2048x2048, .f32⟩
  | .hbm, ⟨32, _⟩ => ⟨S16x1024x2048, .f32⟩
  | .hbm, ⟨33, _⟩ => ⟨S16x1024x1, .f32⟩
  | .hbm, ⟨34, _⟩ => ⟨S16x1024x2048, .f32⟩
  | .hbm, ⟨35, _⟩ => ⟨S16x1024x2048, .f32⟩
  | .hbm, ⟨36, _⟩ => ⟨S16x1024x2048, .bf16⟩
  | _, _ => ⟨S16x1024x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]
-- ==== Merge.lean ====
abbrev S8192x1024 : Shape := ⟨2, ![8192, 1024]⟩
abbrev S8192x8192 : Shape := ⟨2, ![8192, 8192]⟩
abbrev S2x3x1024x2048 : Shape := ⟨4, ![2, 3, 1024, 2048]⟩
abbrev S8192x2048 : Shape := ⟨2, ![8192, 2048]⟩
abbrev S512x1024 : Shape := ⟨2, ![512, 1024]⟩
abbrev S1x3x1024x1024 : Shape := ⟨4, ![1, 3, 1024, 1024]⟩
abbrev S3x1024x1024 : Shape := ⟨3, ![3, 1024, 1024]⟩
abbrev S1x1024x1024 : Shape := ⟨3, ![1, 1024, 1024]⟩
abbrev S1024x1024 : Shape := ⟨2, ![1024, 1024]⟩

abbrev nBuf : Space → Nat
  | .hbm => 6
  | .vmem => 17
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x8192, .f32⟩
  | .hbm, ⟨4, _⟩ => ⟨S2x3x1024x2048, .f32⟩
  | .hbm, ⟨5, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x3x1024x1024, .f32⟩
  | .local _ .vmem, ⟨13, _⟩ => ⟨S1x3x1024x1024, .f32⟩
  | .local _ .vmem, ⟨14, _⟩ => ⟨S512x1024, .bf16⟩
  | .local _ .vmem, ⟨15, _⟩ => ⟨S512x1024, .bf16⟩
  | .local _ .vmem, ⟨16, _⟩ => ⟨S3x1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x3x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MergeReferenceIdeal.lean ====
abbrev S8192x1024 : Shape := ⟨2, ![8192, 1024]⟩
abbrev S8192x8192 : Shape := ⟨2, ![8192, 8192]⟩
abbrev S2x3x1024x2048 : Shape := ⟨4, ![2, 3, 1024, 2048]⟩
abbrev S8192x1x1024 : Shape := ⟨3, ![8192, 1, 1024]⟩
abbrev S8192x3x1024 : Shape := ⟨3, ![8192, 3, 1024]⟩
abbrev S8192x6144 : Shape := ⟨2, ![8192, 6144]⟩
abbrev S_ : Shape := ⟨0, ![]⟩
abbrev S8192x3x2048 : Shape := ⟨3, ![8192, 3, 2048]⟩
abbrev S1x3x1024x2048 : Shape := ⟨4, ![1, 3, 1024, 2048]⟩
abbrev S3x1024x2048 : Shape := ⟨3, ![3, 1024, 2048]⟩
abbrev S3x2048x8192 : Shape := ⟨3, ![3, 2048, 8192]⟩
abbrev S8192x2048 : Shape := ⟨2, ![8192, 2048]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x8192, .f32⟩
  | .hbm, ⟨4, _⟩ => ⟨S2x3x1024x2048, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1x1024, .f32⟩
  | .hbm, ⟨9, _⟩ => ⟨S8192x1x1024, .f32⟩
  | .hbm, ⟨10, _⟩ => ⟨S8192x1x1024, .f32⟩
  | .hbm, ⟨11, _⟩ => ⟨S8192x3x1024, .f32⟩
  | .hbm, ⟨12, _⟩ => ⟨S8192x6144, .f32⟩
  | .hbm, ⟨13, _⟩ => ⟨S8192x6144, .f32⟩
  | .hbm, ⟨14, _⟩ => ⟨S8192x6144, .f32⟩
  | .hbm, ⟨15, _⟩ => ⟨S_, .f32⟩
  | .hbm, ⟨16, _⟩ => ⟨S8192x6144, .f32⟩
  | .hbm, ⟨17, _⟩ => ⟨S8192x6144, .f32⟩
  | .hbm, ⟨18, _⟩ => ⟨S_, .f32⟩
  | .hbm, ⟨19, _⟩ => ⟨S8192x6144, .f32⟩
  | .hbm, ⟨20, _⟩ => ⟨S8192x6144, .f32⟩
  | .hbm, ⟨21, _⟩ => ⟨S8192x3x2048, .f32⟩
  | .hbm, ⟨22, _⟩ => ⟨S1x3x1024x2048, .f32⟩
  | .hbm, ⟨23, _⟩ => ⟨S3x1024x2048, .f32⟩
  | .hbm, ⟨24, _⟩ => ⟨S3x2048x8192, .f32⟩
  | .hbm, ⟨25, _⟩ => ⟨S8192x3x2048, .f32⟩
  | .hbm, ⟨26, _⟩ => ⟨S8192x3x2048, .f32⟩
  | .hbm, ⟨27, _⟩ => ⟨S_, .f32⟩
  | .hbm, ⟨28, _⟩ => ⟨S8192x2048, .f32⟩
  | .hbm, ⟨29, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Conv.lean ====
abbrev S8192x2048 : Shape := ⟨2, ![8192, 2048]⟩
abbrev S2x2048x14336 : Shape := ⟨3, ![2, 2048, 14336]⟩
abbrev S2x3x1024 : Shape := ⟨3, ![2, 3, 1024]⟩
abbrev S4x2048x2048 : Shape := ⟨3, ![4, 2048, 2048]⟩
abbrev S4x2048x1024 : Shape := ⟨3, ![4, 2048, 1024]⟩
abbrev S1x2048x2048 : Shape := ⟨3, ![1, 2048, 2048]⟩
abbrev S1x2048x256 : Shape := ⟨3, ![1, 2048, 256]⟩
abbrev S1x3x256 : Shape := ⟨3, ![1, 3, 256]⟩
abbrev S3x2048x256 : Shape := ⟨3, ![3, 2048, 256]⟩
abbrev S2048x256 : Shape := ⟨2, ![2048, 256]⟩
abbrev S2048x2048 : Shape := ⟨2, ![2048, 2048]⟩
abbrev S1x1x256 : Shape := ⟨3, ![1, 1, 256]⟩
abbrev S1x256 : Shape := ⟨2, ![1, 256]⟩

abbrev nBuf : Space → Nat
  | .hbm => 5
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S2x2048x14336, .f32⟩
  | .hbm, ⟨2, _⟩ => ⟨S2x3x1024, .f32⟩
  | .hbm, ⟨3, _⟩ => ⟨S4x2048x2048, .bf16⟩
  | .hbm, ⟨4, _⟩ => ⟨S4x2048x1024, .bf16⟩
  | .local _ .vmem, ⟨0, _⟩ => ⟨S1x2048x2048, .bf16⟩
  | .local _ .vmem, ⟨1, _⟩ => ⟨S1x2048x2048, .bf16⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x2048x256, .f32⟩
  | .local _ .vmem, ⟨8, _⟩ => ⟨S1x3x256, .f32⟩
  | .local _ .vmem, ⟨9, _⟩ => ⟨S1x3x256, .f32⟩
  | .local _ .vmem, ⟨10, _⟩ => ⟨S1x2048x256, .bf16⟩
  | .local _ .vmem, ⟨11, _⟩ => ⟨S1x2048x256, .bf16⟩
  | .local _ .vmem, ⟨12, _⟩ => ⟨S3x2048x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ConvReferenceIdeal.lean ====
abbrev S8192x2048 : Shape := ⟨2, ![8192, 2048]⟩
abbrev S2x2048x14336 : Shape := ⟨3, ![2, 2048, 14336]⟩
abbrev S2x3x1024 : Shape := ⟨3, ![2, 3, 1024]⟩
abbrev S4x2048x2048 : Shape := ⟨3, ![4, 2048, 2048]⟩
abbrev S1x2048x14336 : Shape := ⟨3, ![1, 2048, 14336]⟩
abbrev S2048x14336 : Shape := ⟨2, ![2048, 14336]⟩
abbrev S4x2048x14336 : Shape := ⟨3, ![4, 2048, 14336]⟩
abbrev S4x2048x3072 : Shape := ⟨3, ![4, 2048, 3072]⟩
abbrev S4x2048x1024 : Shape := ⟨3, ![4, 2048, 1024]⟩
abbrev S_ : Shape := ⟨0, ![]⟩
abbrev S4x2050x1024 : Shape := ⟨3, ![4, 2050, 1024]⟩
abbrev S1x3x1024 : Shape := ⟨3, ![1, 3, 1024]⟩
abbrev S3x1024 : Shape := ⟨2, ![3, 1024]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x14336, .f32⟩
  | .hbm, ⟨2, _⟩ => ⟨S2x3x1024, .f32⟩
  | .hbm, ⟨3, _⟩ => ⟨S8192x2048, .f32⟩
  | .hbm, ⟨4, _⟩ => ⟨S4x2048x2048, .f32⟩
  | .hbm, ⟨5, _⟩ => ⟨S1x2048x14336, .f32⟩
  | .hbm, ⟨6, _⟩ => ⟨S2048x14336, .f32⟩
  | .hbm, ⟨7, _⟩ => ⟨S4x2048x14336, .f32⟩
  | .hbm, ⟨8, _⟩ => ⟨S4x2048x3072, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S4x2048x1024, .f32⟩
  | .hbm, ⟨13, _⟩ => ⟨S_, .i32⟩
  | .hbm, ⟨14, _⟩ => ⟨S_, .f32⟩
  | .hbm, ⟨15, _⟩ => ⟨S4x2050x1024, .f32⟩
  | .hbm, ⟨16, _⟩ => ⟨S1x3x1024, .f32⟩
  | .hbm, ⟨17, _⟩ => ⟨S3x1024, .f32⟩
  | .hbm, ⟨18, _⟩ => ⟨S4x2048x1024, .f32⟩
  | .hbm, ⟨19, _⟩ => ⟨S1x1024, .f32⟩
  | .hbm, ⟨20, _⟩ => ⟨S1024, .f32⟩
  | .hbm, ⟨21, _⟩ => ⟨S1x1x1024, .f32⟩
  | .hbm, ⟨22, _⟩ => ⟨S4x2048x1024, .f32⟩
  | .hbm, ⟨23, _⟩ => ⟨S4x2048x1024, .f32⟩
  | .hbm, ⟨24, _⟩ => ⟨S4x2048x1024, .f32⟩
  | .hbm, ⟨25, _⟩ => ⟨S1x1024, .f32⟩
  | .hbm, ⟨26, _⟩ => ⟨S1024, .f32⟩
  | .hbm, ⟨27, _⟩ => ⟨S1x1x1024, .f32⟩
  | .hbm, ⟨28, _⟩ => ⟨S4x2048x1024, .f32⟩
  | .hbm, ⟨29, _⟩ => ⟨S4x2048x1024, .f32⟩
  | .hbm, ⟨30, _⟩ => ⟨S4x2048x1024, .f32⟩
  | .hbm, ⟨31, _⟩ => ⟨S4x2048x1024, .f32⟩
  | .hbm, ⟨32, _⟩ => ⟨S1x1024, .f32⟩
  | .hbm, ⟨33, _⟩ => ⟨S1024, .f32⟩
  | .hbm, ⟨34, _⟩ => ⟨S1x1x1024, .f32⟩
  | .hbm, ⟨35, _⟩ => ⟨S4x2048x1024, .f32⟩
  | .hbm, ⟨36, _⟩ => ⟨S4x2048x1024, .f32⟩
  | .hbm, ⟨37, _⟩ => ⟨S4x2048x1024, .f32⟩
  | .hbm, ⟨38, _⟩ => ⟨S4x2048x1024, .f32⟩
  | .hbm, ⟨39, _⟩ => ⟨S4x2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩

abbrev nD : Nat := 1
abbrev τ : Topo := Topo.v7x

variable {F : FTy → Type} [FloatOps F]
-- ==== Proof.Finite.lean ====
/- What the precondition says of the arguments' elements. -/
module

public import proofs.«01_k».proof.Defs
public import proofs.«01_k».proof.Proof.Gen.Pre_finite_scores
public import Idealize.ShloMosaic.Lib.Pipeline.ValueKit
public import Idealize.ShloMosaic.Lib.Pointwise
public import Idealize.ShloMosaic.Lib.Claim
public import Idealize.ShloMosaic.Lib.ReduceAll

@[expose] public section

noncomputable section

namespace Cert.Finite

open Cert.Pre_finite_scores Idealize.ShloMosaic

theorem ofBits_inf : Ideal.ofBits .f32 0x7F800000#32 = (⊤ : EReal) := by
  simp [Ideal.ofBits, Ideal.ieee]

theorem real_of_abs (x : EReal) (h : max x (-x) < ⊤) : ∃ r : ℝ, x = r := by
  induction x using EReal.rec with
  | bot => simp at h
  | top => simp at h
  | coe r => exact ⟨r, rfl⟩

theorem reads [Facts] (a0 : FVec Ideal S8192x3072 .bf16) (a1 : FVec Ideal S1024x3072 .bf16) (a2 : FVec Ideal S2x8x15x31 .f32)
    (h : fn a0 a1 a2 = fun _ => 1#1) :
    (∀ (r : Fin 8192) (n : Fin 3072), n.val < 2048 → ∃ x : ℝ, a0 (ix2 r n) = x)
      ∧ (∀ (r : Fin 1024) (n : Fin 3072), 1024 ≤ n.val → n.val < 2048 → ∃ x : ℝ, a1 (ix2 r n) = x)
      ∧ ∀ (i : Fin 8) (j : Fin 15) (k : Fin 31), a2 (ix4 (0 : Fin 2) i j k) ≠ (⊤ : EReal) := by
  have e := congrFun h (Shape.Idx.first Facts.h_S_)
  obtain ⟨e', h3⟩ := IntOp.andi_eq_one.1 e
  obtain ⟨h1, h2⟩ := IntOp.andi_eq_one.1 e'
  refine ⟨fun r n hn => ?_, fun r n hn hn' => ?_, fun i j k => ?_⟩
  · have t := (Ideal.cmp_olt_eq_one _ _).1 (Host.reduce_andi_all _ _ _ _ _ h1 (ix2 r (⟨n.val, hn⟩ : Fin 2048)))
    refine real_of_abs _ ?_
    rw [← ofBits_inf]
    have e : extractStridedSlice S8192x2048 ![0, 0] a0 Facts.slices_S8192x3072_S8192x2048_0_0 (ix2 r (⟨n.val, hn⟩ : Fin 2048)) = a0 (ix2 r n) := by
      pointwise
      blk_ext
    rw [← e]
    exact t
  · have t := (Ideal.cmp_olt_eq_one _ _).1 (Host.reduce_andi_all _ _ _ _ _ h2 (ix2 r (⟨n.val - 1024, by omega⟩ : Fin 1024)))
    refine real_of_abs _ ?_
    rw [← ofBits_inf]
    have e : extractStridedSlice S1024x1024 ![0, 1024] a1 Facts.slices_S1024x3072_S1024x1024_0_1024 (ix2 r (⟨n.val - 1024, by omega⟩ : Fin 1024))
        = a1 (ix2 r n) := by
      pointwise
      blk_ext
    rw [← e]
    exact t
  · have t := (Ideal.cmp_olt_eq_one _ _).1 (Host.reduce_andi_all _ _ _ _ _ h3 (ix3 i j k))
    refine ne_of_lt ?_
    rw [← ofBits_inf]
    have e : shapeCast S8x15x31 (extractStridedSlice S1x8x15x31 ![0, 0, 0, 0] a2 Facts.slices_S2x8x15x31_S1x8x15x31_0_0_0_0)
        Facts.shapeCasts_S1x8x15x31_S8x15x31 (ix3 i j k) = a2 (ix4 (0 : Fin 2) i j k) := by
      pointwise
      blk_ext
    rw [← e]
    exact t

end Cert.Finite

end
-- ==== Proof.Window.lean ====
/- The clamped window of the neighbourhood attention, and the bias it gives a query and a key. -/
module

public import Idealize.ShloMosaic.Lib.Pipeline.ValueKit
public import Idealize.ShloMosaic.Lib.Pointwise
public import Idealize.ShloMosaic.Lib.Claim

@[expose] public section

noncomputable section

namespace Cert.Window

open Idealize.ShloMosaic

/-- Key `k` lies in the window of `size` of query `q`, clamped into an axis of `n` positions. -/
def inWin (n size q k : Nat) : Bool :=
  decide (min (q - size / 2) (n - size) ≤ k) && decide (k < min (q - size / 2) (n - size) + size)

/-- The bias of a query at grid position `(qr, qc)` and a key at `(kr, kc)`: the table at their relative position inside
    the window, minus infinity outside. -/
def bias (tab : Fin 15 → Fin 31 → EReal) (qr qc kr kc : Nat) : EReal :=
  if inWin 32 8 qr kr = true ∧ inWin 64 16 qc kc = true
    then tab ⟨min (kr + 7 - qr) 14, by omega⟩ ⟨min (kc + 15 - qc) 30, by omega⟩ else ⊥

theorem bias_ne_top (tab : Fin 15 → Fin 31 → EReal) (h : ∀ i j, tab i j ≠ ⊤) (qr qc kr kc : Nat) : bias tab qr qc kr kc ≠ ⊤ := by
  unfold bias
  split
  · exact h _ _
  · exact bot_ne_top

/-- The group of eight query groups whose band pattern group `g` takes. -/
def pat (g : Fin 8) : Fin 3 := if g = 0 then 0 else if g = 7 then 2 else 1

/-- First key row of the band of query group `g`. -/
def bandOf (g : Fin 8) : Nat := min (4 * g.val - 4) 20

theorem bandOf_le (g : Fin 8) : bandOf g ≤ 20 := Nat.min_le_right _ _

/-- A key row in the window of a query row of group `g` lies in the group's band. -/
theorem inWin_band : ∀ (g : Fin 8) (r : Fin 4) (k : Fin 32), inWin 32 8 (4 * g.val + r.val) k.val = true →
    bandOf g ≤ k.val ∧ k.val < bandOf g + 12 := by
  decide +kernel

theorem and_ofBool (a b : Bool) : IntOp.andi (BitVec.ofBool a) (BitVec.ofBool b) = BitVec.ofBool (a && b) := by
  cases a <;> cases b <;> rfl

theorem select_ofBool {α : Type} (b : Bool) (x y : α) : Scalar.select (BitVec.ofBool b) x y = if b = true then x else y := by
  cases b <;> rfl

end Cert.Window
-- ==== Proof.Softmax.lean ====
/- One softmax over a band of keys and the context keys, in powers of two and divided once at the end, against the
   softmax over all keys: the keys outside the band have score minus infinity. -/
module

public import Idealize.ShloMosaic.Lib.Pipeline.ValueKit
public import Idealize.ShloMosaic.Lib.Pointwise
public import Idealize.ShloMosaic.Lib.Claim

@[expose] public section

noncomputable section

namespace Cert.Softmax

open Idealize.ShloMosaic
open scoped BigOperators

/-- The softmax over band scores `a` and context scores `c`, in powers of two, the division at the end. -/
def band {β γ : Type} [Fintype β] [Fintype γ] (a : β → EReal) (c : γ → EReal) (v : β → EReal) (w : γ → EReal) : EReal :=
  let M := max (Finset.univ.sup a) (Finset.univ.sup c)
  ((∑ t, Ideal.exp2 (a t - M) * v t) + ∑ l, Ideal.exp2 (c l - M) * w l)
    * Ideal.div 1 ((∑ t, Ideal.exp2 (a t - M)) + ∑ l, Ideal.exp2 (c l - M))

/-- The softmax over all scores `s` and `x`, each weight divided. -/
def full {ι γ : Type} [Fintype ι] [Fintype γ] (s : ι → EReal) (x : γ → EReal) (v : ι → EReal) (w : γ → EReal) : EReal :=
  let M := max (Finset.univ.sup s) (Finset.univ.sup x)
  let D := (∑ j, Ideal.exp (s j - M)) + ∑ l, Ideal.exp (x l - M)
  (∑ j, Ideal.div (Ideal.exp (s j - M)) D * v j) + ∑ l, Ideal.div (Ideal.exp (x l - M)) D * w l

/-- The factor that turns powers of `e` into powers of two. -/
def L : ℝ := (Real.log 2)⁻¹

theorem L_pos : 0 < L := inv_pos.2 (Real.log_pos (by norm_num))

theorem mul_L_mono : Monotone fun a : EReal => a * (L : EReal) :=
  fun _ _ h => mul_le_mul_of_nonneg_right h (by exact_mod_cast L_pos.le)

theorem bot_mul_L : (⊥ : EReal) * (L : EReal) = ⊥ := EReal.bot_mul_coe_of_pos L_pos

theorem sup_mul_L {β : Type} [Fintype β] (f : β → EReal) :
    (Finset.univ.sup fun t => f t * (L : EReal)) = Finset.univ.sup f * (L : EReal) :=
  (Finset.comp_sup_eq_sup_comp_of_is_total (fun a : EReal => a * (L : EReal)) mul_L_mono bot_mul_L).symm

theorem exp2_mul_L (a : EReal) (m : ℝ) (ha : a ≠ ⊤) :
    Ideal.exp2 (a * (L : EReal) - (m : EReal) * (L : EReal)) = Ideal.exp (a - m) := by
  induction a using EReal.rec with
  | top => exact absurd rfl ha
  | bot => rw [bot_mul_L, EReal.bot_sub, EReal.bot_sub, Ideal.exp2_bot, Ideal.exp_bot]
  | coe r =>
    rw [← EReal.coe_mul, ← EReal.coe_mul, ← EReal.coe_sub, ← EReal.coe_sub, Ideal.exp2_coe, Ideal.exp_coe]
    congr 1
    show (2 : ℝ) ^ (r * L - m * L) = _
    rw [Real.rpow_def_of_pos (by norm_num), ← sub_mul, L]
    congr 1
    field_simp [(Real.log_pos (by norm_num : (1:ℝ) < 2)).ne']

/-- The exponential of a score under the largest one is a real number. -/
theorem exp_real (a : EReal) (m : ℝ) (ha : a ≠ ⊤) : ∃ r : ℝ, 0 ≤ r ∧ Ideal.exp (a - m) = (r : EReal) := by
  induction a using EReal.rec with
  | top => exact absurd rfl ha
  | bot => exact ⟨0, le_rfl, by rw [EReal.bot_sub, Ideal.exp_bot]; rfl⟩
  | coe r => exact ⟨Real.exp (r - m), (Real.exp_pos _).le, by rw [← EReal.coe_sub, Ideal.exp_coe]⟩

theorem exp_pos (r m : ℝ) : ∃ e : ℝ, 0 < e ∧ Ideal.exp ((r : EReal) - m) = (e : EReal) :=
  ⟨Real.exp (r - m), Real.exp_pos _, by rw [← EReal.coe_sub, Ideal.exp_coe]⟩

theorem sum_mul_real {ι : Type} (S : Finset ι) (f : ι → EReal) (r : ℝ) (hr : 0 ≤ r) :
    (∑ i ∈ S, f i) * (r : EReal) = ∑ i ∈ S, f i * (r : EReal) := by
  classical
  induction S using Finset.induction_on with
  | empty => simp
  | insert a S ha ih =>
    rw [Finset.sum_insert ha, Finset.sum_insert ha, ← ih,
      EReal.right_distrib_of_nonneg_of_ne_top (by exact_mod_cast hr) (EReal.coe_ne_top r)]

theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A sum over all keys whose terms vanish outside the band is the sum over the band. -/
theorem sum_band {ι β : Type} [Fintype ι] [Fintype β] (σ : β → ι) (hσ : Function.Injective σ) (f : ι → EReal)
    (hf : ∀ j, (∀ t, σ t ≠ j) → f j = 0) : ∑ j, f j = ∑ t, f (σ t) := by
  classical
  rw [← Finset.sum_image (s := Finset.univ) (g := σ) (f := f) fun a _ b _ e => hσ e]
  refine (Finset.sum_subset (Finset.subset_univ _) fun j _ hj => hf j fun t e => hj ?_).symm
  exact Finset.mem_image.2 ⟨t, Finset.mem_univ _, e⟩

/-- The band softmax is the full softmax. -/
theorem band_eq_full {ι β γ : Type} [Fintype ι] [Fintype β] [Fintype γ] (l0 : γ) (σ : β → ι) (hσ : Function.Injective σ)
    (s : ι → EReal) (x : γ → EReal) (v : ι → EReal) (w : γ → EReal) (hs : ∀ j, s j ≠ ⊤)
    (hx : ∀ l, ∃ r : ℝ, x l = r) (hoff : ∀ j, (∀ t, σ t ≠ j) → s j = ⊥) :
    band (fun t => s (σ t) * (L : EReal)) (fun l => x l * (L : EReal)) (fun t => v (σ t)) w = full s x v w := by
  have hsup : (Finset.univ.sup fun t => s (σ t)) = Finset.univ.sup s := by
    refine le_antisymm (Finset.sup_le fun t _ => Finset.le_sup (f := s) (Finset.mem_univ _)) (Finset.sup_le fun j _ => ?_)
    by_cases h : ∃ t, σ t = j
    · obtain ⟨t, rfl⟩ := h
      exact Finset.le_sup (f := fun t => s (σ t)) (Finset.mem_univ t)
    · rw [hoff j fun t e => h ⟨t, e⟩]; exact bot_le
  have hx' : ∀ l, x l ≠ ⊤ := fun l => by obtain ⟨r, hr⟩ := hx l; rw [hr]; exact EReal.coe_ne_top r
  obtain ⟨m, hm⟩ : ∃ m : ℝ, max (Finset.univ.sup s) (Finset.univ.sup x) = (m : EReal) := by
    have h1 : max (Finset.univ.sup s) (Finset.univ.sup x) ≠ ⊤ := by
      refine ne_of_lt (max_lt ((Finset.sup_lt_iff (bot_lt_top)).2 fun j _ => lt_top_iff_ne_top.2 (hs j))
        ((Finset.sup_lt_iff (bot_lt_top)).2 fun l _ => lt_top_iff_ne_top.2 (hx' l)))
    have h2 : max (Finset.univ.sup s) (Finset.univ.sup x) ≠ ⊥ := by
      obtain ⟨r, hr⟩ := hx l0
      have : x l0 ≤ max (Finset.univ.sup s) (Finset.univ.sup x) :=
        le_trans (Finset.le_sup (f := x) (Finset.mem_univ l0)) (le_max_right _ _)
      intro e
      rw [e, hr, le_bot_iff] at this
      exact EReal.coe_ne_bot r this
    exact ⟨_, (EReal.coe_toReal h1 h2).symm⟩
  have hmL : max (Finset.univ.sup fun t => s (σ t) * (L : EReal)) (Finset.univ.sup fun l => x l * (L : EReal))
      = (m : EReal) * (L : EReal) := by
    rw [sup_mul_L (fun t => s (σ t)), sup_mul_L x, hsup, ← hm]
    exact (mul_L_mono.map_max).symm
  choose e he0 he using fun j => exp_real (s j) m (hs j)
  have hfx : ∀ l, ∃ r : ℝ, 0 < r ∧ Ideal.exp (x l - m) = (r : EReal) := fun l => by
    obtain ⟨r, hr⟩ := hx l; rw [hr]; exact exp_pos r m
  choose f hf0 hf using hfx
  have hz : ∀ j, (∀ t, σ t ≠ j) → (e j : EReal) = 0 := fun j h => by
    rw [← he j, hoff j h, EReal.bot_sub, Ideal.exp_bot]
  simp only [band, full]
  rw [hmL, hm]
  simp only [exp2_mul_L _ m (hs _), exp2_mul_L _ m (hx' _), he, hf]
  have hD : (∑ j, (e j : EReal)) + ∑ l, (f l : EReal) = ((∑ j, e j + ∑ l, f l : ℝ) : EReal) := by
    rw [EReal.coe_add, coe_sum, coe_sum]
  have hDK : (∑ t, (e (σ t) : EReal)) + ∑ l, (f l : EReal) = ((∑ j, e j + ∑ l, f l : ℝ) : EReal) := by
    rw [← hD, sum_band σ hσ (fun j => (e j : EReal)) hz]
  have hpos : 0 < ∑ j, e j + ∑ l, f l :=
    add_pos_of_nonneg_of_pos (Finset.sum_nonneg fun j _ => he0 j) (Finset.sum_pos (fun l _ => hf0 l) ⟨l0, Finset.mem_univ _⟩)
  rw [hD, hDK]
  simp only [Ideal.div_coe hpos.ne', one_mul]
  have hr : (0 : ℝ) ≤ 1 / (∑ j, e j + ∑ l, f l) := by positivity
  generalize 1 / (∑ j, e j + ∑ l, f l) = r at hr
  rw [EReal.right_distrib_of_nonneg_of_ne_top (by exact_mod_cast hr) (EReal.coe_ne_top r), sum_mul_real _ _ r hr,
    sum_mul_real _ _ r hr,
    sum_band σ hσ (fun j => (e j : EReal) * (r : EReal) * v j) fun j h => by rw [hz j h, zero_mul, zero_mul]]
  congr 1 <;> exact Finset.sum_congr rfl fun i _ => by rw [mul_assoc, mul_assoc, mul_comm (r : EReal)]

end Cert.Softmax
-- ==== Proof.MaxAt.lean ====
/- The largest element along one axis, read at an index. -/
module

public import Idealize.ShloMosaic.Lib.Pipeline.ValueKit
public import Idealize.ShloMosaic.Lib.Pointwise
public import Idealize.ShloMosaic.Lib.Claim

@[expose] public section

noncomputable section

namespace Cert.MaxAt

open Idealize.ShloMosaic

theorem ofBits_ninf : Ideal.ofBits .f32 0xFF800000#32 = (⊥ : EReal) := by
  simp [Ideal.ofBits, Ideal.ieee]

theorem fold_max {ι : Type} (S : Finset ι) (f : ι → EReal) : S.fold max ⊥ f = S.sup f := rfl

theorem hostMax_at {s t u : Shape} {a : Fin s.rank} (x : FVec Ideal s .f32) (init : FVec Ideal u .f32)
    (h' : s.ReducesTo [a] t) (h : s.Reduces [a] t) (hu : 0 < u.numel) (j : t.Idx)
    (hi : init (Shape.Idx.first hu) = (⊥ : EReal)) :
    Host.reduce FloatOps.maximumf x init h' hu j = Finset.univ.sup fun k : Fin (s.size a) => x (h.lift j k) := by
  rw [Host.reduce_eq_fold_single _ _ _ h' h hu j, hi]
  rfl

theorem maximumf_at {s : Shape} (x y : FVec Ideal s .f32) (i : s.Idx) : maximumf x y i = max (x i) (y i) := rfl

theorem bcast_const_at {s : Shape} (b : BitVec 32) (dims) (h) (i : s.Idx) :
    broadcastInDim (s := ⟨0, ![]⟩) s dims h (constant (F := Ideal) ⟨0, ![]⟩ .f32 b) i = Ideal.ofBits .f32 b := rfl

end Cert.MaxAt
-- ==== Proof.BandBias.lean ====
/- The bias of every band, which the host builds from the table, read at an index. -/
module

public import proofs.«01_k».proof.Proof.Gen.KernelIdeal.Value
public import proofs.«01_k».proof.Proof.Window
public import proofs.«01_k».proof.Proof.Softmax
public import proofs.«01_k».proof.Proof.MaxAt
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Value

open Cert.KernelIdeal Cert.KernelIdeal.Gen Idealize.ShloMosaic Idealize.ShloMosaic.TcCoe Idealize.SL.Sem
open scoped BigOperators

/-- The group of four query rows whose band each of the three patterns shows. -/
def bandGroup : IVec S3 32 :=
  select (cmpi .eq (iotaInDim S3 32 0) (broadcastInDim S3 ![] bcast_S_S3 (constantI S_ 32 2#32))) (broadcastInDim S3 ![] bcast_S_S3 (id (constantI S_ 32 7#32))) (iotaInDim S3 32 0)

/-- First key row of each pattern's band. -/
def bandRow : IVec S3 32 :=
  minsi (broadcastInDim S3 ![] bcast_S_S3 (id (constantI S_ 32 20#32))) (maxsi (broadcastInDim S3 ![] bcast_S_S3 (id (constantI S_ 32 0#32))) (subi (muli bandGroup (broadcastInDim S3 ![] bcast_S_S3 (constantI S_ 32 4#32))) (broadcastInDim S3 ![] bcast_S_S3 (constantI S_ 32 4#32))))

/-- The grid rows of the queries. -/
def queryRow : IVec S3x4x1 32 :=
  broadcastInDim S3x4x1 ![0, 1] bcast_S3x4_S3x4x1_0_1 (addi (broadcastInDim S3x4 ![0, 1] bcast_S3x1_S3x4_0_1 (muli (broadcastInDim S3x1 ![0] bcast_S3_S3x1_0 bandGroup) (broadcastInDim S3x1 ![] bcast_S_S3x1 (constantI S_ 32 4#32)))) (broadcastInDim S3x4 ![0, 1] bcast_S1x4_S3x4_0_1 (broadcastInDim S1x4 ![1] bcast_S4_S1x4_1 (iotaInDim S4 32 0))))

/-- The grid rows of the keys. -/
def keyRow : IVec S3x1x12 32 :=
  broadcastInDim S3x1x12 ![0, 2] bcast_S3x12_S3x1x12_0_2 (addi (broadcastInDim S3x12 ![0, 1] bcast_S3x1_S3x12_0_1 (broadcastInDim S3x1 ![0] bcast_S3_S3x1_0 bandRow)) (broadcastInDim S3x12 ![0, 1] bcast_S1x12_S3x12_0_1 (broadcastInDim S1x12 ![1] bcast_S12_S1x12_1 (iotaInDim S12 32 0))))

/-- First row of each query row's window. -/
def firstRow : IVec S3x4x1 32 :=
  minsi (broadcastInDim S3x4x1 ![] bcast_S_S3x4x1 (id (constantI S_ 32 24#32))) (maxsi (broadcastInDim S3x4x1 ![] bcast_S_S3x4x1 (id (constantI S_ 32 0#32))) (subi queryRow (broadcastInDim S3x4x1 ![] bcast_S_S3x4x1 (constantI S_ 32 4#32))))

/-- First column of each query column's window. -/
def firstCol : IVec S64x1 32 :=
  minsi (broadcastInDim S64x1 ![] bcast_S_S64x1 (id (constantI S_ 32 48#32))) (maxsi (broadcastInDim S64x1 ![] bcast_S_S64x1 (id (constantI S_ 32 0#32))) (subi (broadcastInDim S64x1 ![0] bcast_S64_S64x1_0 (iotaInDim S64 32 0)) (broadcastInDim S64x1 ![] bcast_S_S64x1 (constantI S_ 32 8#32))))

/-- Which band rows lie in the window. -/
def rowIn : IVec S3x4x12 1 :=
  andi (cmpi .sge (broadcastInDim S3x4x12 ![0, 1, 2] bcast_S3x1x12_S3x4x12_0_1_2 keyRow) (broadcastInDim S3x4x12 ![0, 1, 2] bcast_S3x4x1_S3x4x12_0_1_2 firstRow)) (cmpi .slt (broadcastInDim S3x4x12 ![0, 1, 2] bcast_S3x1x12_S3x4x12_0_1_2 keyRow) (broadcastInDim S3x4x12 ![0, 1, 2] bcast_S3x4x1_S3x4x12_0_1_2 (addi firstRow (broadcastInDim S3x4x1 ![] bcast_S_S3x4x1 (constantI S_ 32 8#32)))))

/-- Which columns lie in the window. -/
def colIn : IVec S64x64 1 :=
  andi (cmpi .sge (broadcastInDim S64x64 ![0, 1] bcast_S1x64_S64x64_0_1 (broadcastInDim S1x64 ![1] bcast_S64_S1x64_1 (iotaInDim S64 32 0))) (broadcastInDim S64x64 ![0, 1] bcast_S64x1_S64x64_0_1 firstCol)) (cmpi .slt (broadcastInDim S64x64 ![0, 1] bcast_S1x64_S64x64_0_1 (broadcastInDim S1x64 ![1] bcast_S64_S1x64_1 (iotaInDim S64 32 0))) (broadcastInDim S64x64 ![0, 1] bcast_S64x1_S64x64_0_1 (addi firstCol (broadcastInDim S64x1 ![] bcast_S_S64x1 (constantI S_ 32 16#32)))))

/-- The relative row times the table's row length. -/
def rowPart : IVec S3x4x12 32 :=
  muli (subi (addi (subi (broadcastInDim S3x4x12 ![0, 1, 2] bcast_S3x1x12_S3x4x12_0_1_2 keyRow) (broadcastInDim S3x4x12 ![0, 1, 2] bcast_S3x4x1_S3x4x12_0_1_2 queryRow)) (broadcastInDim S3x4x12 ![] bcast_S_S3x4x12 (constantI S_ 32 8#32))) (broadcastInDim S3x4x12 ![] bcast_S_S3x4x12 (constantI S_ 32 1#32))) (broadcastInDim S3x4x12 ![] bcast_S_S3x4x12 (constantI S_ 32 31#32))

/-- The relative column. -/
def colPart : IVec S64x64 32 :=
  subi (addi (subi (broadcastInDim S64x64 ![0, 1] bcast_S1x64_S64x64_0_1 (broadcastInDim S1x64 ![1] bcast_S64_S1x64_1 (iotaInDim S64 32 0))) (broadcastInDim S64x64 ![0, 1] bcast_S64x1_S64x64_0_1 (broadcastInDim S64x1 ![0] bcast_S64_S64x1_0 (iotaInDim S64 32 0)))) (broadcastInDim S64x64 ![] bcast_S_S64x64 (constantI S_ 32 16#32))) (broadcastInDim S64x64 ![] bcast_S_S64x64 (constantI S_ 32 1#32))

/-- The table entry of each query and key of a band, the masked entry outside the window. -/
def tableIndex : IVec S3x4x64x12x64 32 :=
  select (andi (broadcastInDim S3x4x64x12x64 ![0, 1, 2, 3, 4] bcast_S3x4x1x12x1_S3x4x64x12x64_0_1_2_3_4 (broadcastInDim S3x4x1x12x1 ![0, 1, 3] bcast_S3x4x12_S3x4x1x12x1_0_1_3 rowIn)) (broadcastInDim S3x4x64x12x64 ![0, 1, 2, 3, 4] bcast_S1x1x64x1x64_S3x4x64x12x64_0_1_2_3_4 (broadcastInDim S1x1x64x1x64 ![2, 4] bcast_S64x64_S1x1x64x1x64_2_4 colIn))) (addi (broadcastInDim S3x4x64x12x64 ![0, 1, 2, 3, 4] bcast_S3x4x1x12x1_S3x4x64x12x64_0_1_2_3_4 (broadcastInDim S3x4x1x12x1 ![0, 1, 3] bcast_S3x4x12_S3x4x1x12x1_0_1_3 rowPart)) (broadcastInDim S3x4x64x12x64 ![0, 1, 2, 3, 4] bcast_S1x1x64x1x64_S3x4x64x12x64_0_1_2_3_4 (broadcastInDim S1x1x64x1x64 ![2, 4] bcast_S64x64_S1x1x64x1x64_2_4 colPart))) (broadcastInDim S3x4x64x12x64 ![] bcast_S_S3x4x64x12x64 (id (constantI S_ 32 465#32)))

/-- The flat bias table in powers of two, minus infinity at the masked entry. -/
def table (a2 : FVec Ideal S2x8x15x31 .f32) : FVec Ideal S16x480 .f32 :=
  select (broadcastInDim S16x480 ![0, 1] bcast_S1x480_S16x480_0_1 (cmpi .eq (broadcastInDim S1x480 ![1] bcast_S480_S1x480_1 (iotaInDim S480 32 0)) (broadcastInDim S1x480 ![] bcast_S_S1x480 (constantI S_ 32 465#32)))) (broadcastInDim S16x480 ![] bcast_S_S16x480 (id (constant S_ .f32 0xFF800000#32))) ((Host.divf) (pad S16x480 ![0, 0] ![0, 15] ![0, 0] (shapeCast _ a2 shapeCasts_S2x8x15x31_S16x465) (sitofp .f32 (constantI S_ 32 0#32)) pads_S16x465_S16x480_000_0150 h_S_) (broadcastInDim S16x480 ![] bcast_S_S16x480 ((Host.log) (constant S_ .f32 0x40000000#32))))

/-- The bias of every band. -/
def bandBias (a2 : FVec Ideal S2x8x15x31 .f32) : FVec Ideal S2x3x8x256x768 .f32 :=
  transpose S2x3x8x256x768 [0, 2, 1, 3, 4] (shapeCast _ (Host.gather gather_S16x480_S768x768x1_S16x768x768_0_1_n_n_1_2_161 (table a2) (broadcastInDim S768x768x1 ![0, 1] bcast_S768x768_S768x768x1_0_1 (shapeCast _ tableIndex shapeCasts_S3x4x64x12x64_S768x768))) shapeCasts_S16x768x768_S2x8x3x256x768) transposes_S2x8x3x256x768_S2x3x8x256x768_0_2_1_3_4

/-- The latent projections by batch. -/
def qkv3 (a0 : FVec Ideal S8192x3072 .bf16) : FVec Ideal S4x2048x3072 .bf16 :=
  shapeCast _ a0 shapeCasts_S8192x3072_S4x2048x3072

/-- The context projections by batch. -/
def kvc3 (a1 : FVec Ideal S1024x3072 .bf16) : FVec Ideal S4x256x3072 .bf16 :=
  shapeCast _ a1 shapeCasts_S1024x3072_S4x256x3072

theorem V_qkv (m : (ℓ : Loc nD τ sig) → Buf (Elt Ideal) ℓ) (c : Dev nD) :
    V m c main_v95 = qkv3 (m ((c.tc : Thread nD τ).loc main_arg0)) := by
  entry_read
  rfl

theorem V_kvc (m : (ℓ : Loc nD τ sig) → Buf (Elt Ideal) ℓ) (c : Dev nD) :
    V m c main_v96 = kvc3 (m ((c.tc : Thread nD τ).loc main_arg1)) := by
  entry_read
  rfl

theorem V_bias (m : (ℓ : Loc nD τ sig) → Buf (Elt Ideal) ℓ) (c : Dev nD) :
    V m c main_v94 = bandBias (m ((c.tc : Thread nD τ).loc main_arg2)) := by
  simp only [V, hostOps0, hostOps0_1, hostOps0_2, hostOps0_3, hostOps0_4, hostOps0_5, hostOps0_6, hostOps0_7, hostOps0_8, hostOps0_9,
    hostOps0_10, hostOps0_11, hostOps0_12, hostOps0_13, hostOps0_14, List.flatten_cons, List.flatten_nil, List.append_nil,
    List.cons_append, List.nil_append]
  after_results
  unfold bandBias table tableIndex rowIn colIn rowPart colPart firstRow firstCol keyRow queryRow bandRow bandGroup
  simp only [StableHlo.TRef.toBuf, StableHlo.TRef.ofBuf, cast_eq, eqRec_eq_cast]
  rfl
open Cert.Window

theorem rowIn_eq : ∀ (g : Fin 8) (r : Fin 4) (b : Fin 12),
    rowIn (ix3 (pat g) r b) = BitVec.ofBool (inWin 32 8 (4 * g.val + r.val) (bandOf g + b.val)) := by
  decide +kernel

theorem rowPart_eq : ∀ (g : Fin 8) (r : Fin 4) (b : Fin 12), inWin 32 8 (4 * g.val + r.val) (bandOf g + b.val) = true →
    rowPart (ix3 (pat g) r b) = BitVec.ofNat 32 (31 * min (bandOf g + b.val + 7 - (4 * g.val + r.val)) 14) := by
  decide +kernel

theorem colIn_eq : ∀ (q k : Fin 64), colIn (ix2 q k) = BitVec.ofBool (inWin 64 16 q.val k.val) := by
  decide +kernel

theorem colPart_eq : ∀ (q k : Fin 64), inWin 64 16 q.val k.val = true →
    colPart (ix2 q k) = BitVec.ofNat 32 (min (k.val + 15 - q.val) 30) := by
  decide +kernel

theorem gather_at (x : FVec Ideal S16x480 .f32) (idx : IVec S768x768x1 32) (y : S16x768x768.Idx) :
    Host.gather gather_S16x480_S768x768x1_S16x768x768_0_1_n_n_1_2_161 x idx y
      = x (ix2 (y 0) ⟨min (idx (ix3 (y 1) (y 2) (0 : Fin 1))).toInt.toNat 479, by omega⟩) := by
  unfold Host.gather
  congr 1
  funext a
  refine Fin.ext ?_
  match a with
  | ⟨0, _⟩ =>
    show GatherDims.start _ y idx 0 + GatherDims.batchCoord _ y 0 + GatherDims.offCoord _ y 0 = _
    rw [GatherDims.batchCoord_eq_zero _ _ _ List.not_mem_nil]
    unfold GatherDims.start
    rw [dif_neg (by decide)]
    unfold GatherDims.offCoord
    rw [dif_pos (by decide)]
    simp only [Nat.zero_add, Nat.add_zero]
    rfl
  | ⟨1, _⟩ =>
    show GatherDims.start _ y idx 1 + GatherDims.batchCoord _ y 1 + GatherDims.offCoord _ y 1 = _
    rw [GatherDims.batchCoord_eq_zero _ _ _ List.not_mem_nil,
      GatherDims.offCoord_eq_zero _ _ _ (by decide)]
    simp only [Nat.add_zero]
    unfold GatherDims.start
    rw [dif_pos (by decide)]
    have hsi : GatherDims.siIdx gather_S16x480_S768x768x1_S16x768x768_0_1_n_n_1_2_161 y ⟨0, by decide⟩
        = ix3 (y 1) (y 2) (0 : Fin 1) := by
      funext b; refine Fin.ext ?_
      match b with
      | ⟨0, _⟩ => rfl
      | ⟨1, _⟩ => rfl
      | ⟨2, _⟩ => rfl
    exact congrArg (fun i => min (idx i).toInt.toNat 479) hsi

theorem tableIndex_at (g : Fin 8) (r : Fin 4) (qc : Fin 64) (b : Fin 12) (kc : Fin 64) :
    tableIndex (ix5 (pat g) r qc b kc)
      = if inWin 32 8 (4 * g.val + r.val) (bandOf g + b.val) = true ∧ inWin 64 16 qc.val kc.val = true
          then BitVec.ofNat 32 (31 * min (bandOf g + b.val + 7 - (4 * g.val + r.val)) 14 + min (kc.val + 15 - qc.val) 30)
          else 465#32 := by
  pointwise [tableIndex]
  rw [rowIn_eq g r b, colIn_eq qc kc, and_ofBool]
  by_cases h1 : inWin 32 8 (4 * g.val + r.val) (bandOf g + b.val) = true
  · by_cases h2 : inWin 64 16 qc.val kc.val = true
    · rw [rowPart_eq g r b h1, colPart_eq qc kc h2, h1, h2]
      simp [Scalar.select, IntOp.addi, BitVec.ofNat_add]
    · simp [h1, h2, Scalar.select]
      rfl
  · simp [h1, Scalar.select]
    rfl

theorem log_two : Ideal.log (Ideal.ofBits .f32 0x40000000#32) = ((Real.log 2 : ℝ) : EReal) := by
  have : Ideal.ofBits .f32 0x40000000#32 = ((2 : ℝ) : EReal) := by
    simp [Ideal.ofBits, Ideal.ieee]
    rw [← EReal.coe_mul]
    norm_num
  rw [this, Ideal.log_coe]
  simp

theorem table_at (a2 : FVec Ideal S2x8x15x31 .f32) (p : Fin 16) (n : Fin 480) (hn : n.val < 465) :
    table a2 (ix2 p n) = a2 (ix4 ⟨p.val / 8, by omega⟩ ⟨p.val % 8, by omega⟩ ⟨n.val / 31, by omega⟩ ⟨n.val % 31, by omega⟩)
      * (Softmax.L : EReal) := by
  pointwise [table]
  have h0 : IntOp.cmpi .eq (BitVec.ofNat 32 n.val) 465#32 = 0#1 := by
    have : (BitVec.ofNat 32 n.val == 465#32) = false := by
      rw [beq_eq_false_iff_ne]
      intro e
      have := congrArg BitVec.toNat e
      simp at this
      omega
    simp [IntOp.cmpi, this]
  have hl : Real.log 2 ≠ 0 := (Real.log_pos (by norm_num)).ne'
  rw [h0, dif_pos hn, log_two, Ideal.div_coe hl]
  simp [Scalar.select, Softmax.L]

theorem table_masked (a2 : FVec Ideal S2x8x15x31 .f32) (p : Fin 16) (n : Fin 480) (hn : n.val = 465) :
    table a2 (ix2 p n) = (⊥ : EReal) := by
  pointwise [table]
  have h0 : IntOp.cmpi .eq (BitVec.ofNat 32 n.val) 465#32 = 1#1 := by rw [hn]; rfl
  rw [h0]
  exact MaxAt.ofBits_ninf

theorem index_at (i j : Fin 768) :
    broadcastInDim S768x768x1 ![0, 1] bcast_S768x768_S768x768x1_0_1 (shapeCast S768x768 tableIndex shapeCasts_S3x4x64x12x64_S768x768)
        (ix3 i j (0 : Fin 1))
      = tableIndex (ix5 (⟨i.val / 256, by omega⟩ : Fin 3) (⟨i.val / 64 % 4, by omega⟩ : Fin 4) (⟨i.val % 64, by omega⟩ : Fin 64)
          (⟨j.val / 64, by omega⟩ : Fin 12) (⟨j.val % 64, by omega⟩ : Fin 64)) := by
  pointwise

theorem bandBias_read (a2 : FVec Ideal S2x8x15x31 .f32) (y : S2x3x8x256x768.Idx) :
    bandBias a2 y = Host.gather gather_S16x480_S768x768x1_S16x768x768_0_1_n_n_1_2_161 (table a2)
      (broadcastInDim S768x768x1 ![0, 1] bcast_S768x768_S768x768x1_0_1 (shapeCast S768x768 tableIndex shapeCasts_S3x4x64x12x64_S768x768))
      (ix3 (⟨(y 0).val * 8 + (y 2).val, by have h0 : (y 0).val < 2 := (y 0).isLt; have h2 : (y 2).val < 8 := (y 2).isLt; omega⟩ : Fin 16)
        (⟨(y 1).val * 256 + (y 3).val, by have h1 : (y 1).val < 3 := (y 1).isLt; have h3 : (y 3).val < 256 := (y 3).isLt; omega⟩ : Fin 768) (y 4)) := by
  pointwise [bandBias]

theorem ofNat_small (n : Nat) (h : n < 465) : (BitVec.ofNat 32 n).toInt.toNat = n := by
  have e : (BitVec.ofNat 32 n).toNat = n := by rw [BitVec.toNat_ofNat]; exact Nat.mod_eq_of_lt (by omega)
  rw [BitVec.toInt_eq_toNat_of_lt (by rw [e]; omega), e]
  rfl

theorem bandBias_at (a2 : FVec Ideal S2x8x15x31 .f32) (g : Fin 8) (h : Fin 8) (q : Fin 256) (k : Fin 768) :
    bandBias a2 (ix5 (0 : Fin 2) (pat g) h q k)
      = bias (fun i j => a2 (ix4 (0 : Fin 2) h i j)) (4 * g.val + q.val / 64) (q.val % 64) (bandOf g + k.val / 64) (k.val % 64)
        * (Softmax.L : EReal) := by
  rw [bandBias_read, gather_at]
  have hi : tableIndex (ix5 (⟨((pat g).val * 256 + q.val) / 256, by omega⟩ : Fin 3) (⟨((pat g).val * 256 + q.val) / 64 % 4, by omega⟩ : Fin 4)
        (⟨((pat g).val * 256 + q.val) % 64, by omega⟩ : Fin 64) (⟨k.val / 64, by omega⟩ : Fin 12) (⟨k.val % 64, by omega⟩ : Fin 64))
      = tableIndex (ix5 (pat g) (⟨q.val / 64, by omega⟩ : Fin 4) (⟨q.val % 64, by omega⟩ : Fin 64) (⟨k.val / 64, by omega⟩ : Fin 12) (⟨k.val % 64, by omega⟩ : Fin 64)) := by
    congr 2
    · exact Fin.ext (by show ((pat g).val * 256 + q.val) / 256 = (pat g).val; omega)
    · exact Fin.ext (by show ((pat g).val * 256 + q.val) / 64 % 4 = q.val / 64; omega)
    · exact Fin.ext (by show ((pat g).val * 256 + q.val) % 64 = q.val % 64; omega)
  have hx := (index_at ⟨(pat g).val * 256 + q.val, by omega⟩ k).trans hi
  rw [tableIndex_at] at hx
  have hp : ∀ n : Fin 480, (ix2 (⟨0 * 8 + h.val, by omega⟩ : Fin 16) n : S16x480.Idx) = ix2 (⟨h.val, by omega⟩ : Fin 16) n := by
    intro n; congr 1; exact Fin.ext (by simp)
  show table a2 (ix2 (⟨0 * 8 + h.val, _⟩ : Fin 16) ⟨min (broadcastInDim S768x768x1 ![0, 1] bcast_S768x768_S768x768x1_0_1
    (shapeCast S768x768 tableIndex shapeCasts_S3x4x64x12x64_S768x768)
        (ix3 (⟨(pat g).val * 256 + q.val, _⟩ : Fin 768) k (0 : Fin 1))).toInt.toNat 479, _⟩) = _
  rw [hp]
  unfold bias
  split
  · next hw =>
    rw [if_pos hw] at hx
    have hn : (BitVec.ofNat 32 (31 * min (bandOf g + k.val / 64 + 7 - (4 * g.val + q.val / 64)) 14 + min (k.val % 64 + 15 - q.val % 64) 30)).toInt.toNat
        = 31 * min (bandOf g + k.val / 64 + 7 - (4 * g.val + q.val / 64)) 14 + min (k.val % 64 + 15 - q.val % 64) 30 := by
      refine ofNat_small _ ?_
      have h1 := Nat.min_le_right (bandOf g + k.val / 64 + 7 - (4 * g.val + q.val / 64)) 14
      have h2 := Nat.min_le_right (k.val % 64 + 15 - q.val % 64) 30
      omega
    rw [table_at _ _ _ (by show min _ 479 < 465; rw [hx, hn]; omega)]
    congr 2
    congr 1
    · exact Fin.ext (by show h.val / 8 = 0; omega)
    · exact Fin.ext (by show h.val % 8 = h.val; omega)
    · exact Fin.ext (by show min _ 479 / 31 = min _ 14; rw [hx, hn]; omega)
    · exact Fin.ext (by show min _ 479 % 31 = min _ 30; rw [hx, hn]; omega)
  · next hw =>
    rw [if_neg hw] at hx
    rw [table_masked _ _ _ (by show min _ 479 = 465; rw [hx]; rfl), Softmax.bot_mul_L]

end Cert.KernelIdeal.Value
-- ==== Proof.RefAt.lean ====
/- The plain definition's result read at an index: its stages named, and each of them at an index. -/
module

public import proofs.«01_k».proof.Proof.Gen.ReferenceIdeal.Run
public import Idealize.ShloMosaic.Lib.Pipeline.ValueKit
public import Idealize.ShloMosaic.Lib.Pointwise
public import Idealize.ShloMosaic.Lib.Claim
public import proofs.«01_k».proof.Proof.Softmax
public import proofs.«01_k».proof.Proof.MaxAt
public import proofs.«01_k».proof.Proof.Window

@[expose] public section

set_option maxRecDepth 16384

noncomputable section

namespace Cert.ReferenceIdeal.Value

open Cert.ReferenceIdeal Cert.ReferenceIdeal.Gen Idealize.ShloMosaic Idealize.ShloMosaic.TcCoe Idealize.SL.Sem
open scoped BigOperators

/-- First key row of each query row's window. -/
def rowStart : IVec S32x1 32 :=
  minsi (broadcastInDim S32x1 ![] bcast_S_S32x1 (id (constantI S_ 32 24#32))) (maxsi (broadcastInDim S32x1 ![] bcast_S_S32x1 (id (constantI S_ 32 0#32))) (subi (broadcastInDim S32x1 ![0] bcast_S32_S32x1_0 (iotaInDim S32 32 0)) (broadcastInDim S32x1 ![] bcast_S_S32x1 (constantI S_ 32 4#32))))

/-- First key column of each query column's window. -/
def colStart : IVec S64x1 32 :=
  minsi (broadcastInDim S64x1 ![] bcast_S_S64x1 (id (constantI S_ 32 48#32))) (maxsi (broadcastInDim S64x1 ![] bcast_S_S64x1 (id (constantI S_ 32 0#32))) (subi (broadcastInDim S64x1 ![0] bcast_S64_S64x1_0 (iotaInDim S64 32 0)) (broadcastInDim S64x1 ![] bcast_S_S64x1 (constantI S_ 32 8#32))))

/-- Which key rows lie in a query row's window. -/
def rowOk : IVec S32x32 1 :=
  andi (cmpi .sge (broadcastInDim S32x32 ![0, 1] bcast_S1x32_S32x32_0_1 (broadcastInDim S1x32 ![1] bcast_S32_S1x32_1 (iotaInDim S32 32 0))) (broadcastInDim S32x32 ![0, 1] bcast_S32x1_S32x32_0_1 rowStart)) (cmpi .slt (broadcastInDim S32x32 ![0, 1] bcast_S1x32_S32x32_0_1 (broadcastInDim S1x32 ![1] bcast_S32_S1x32_1 (iotaInDim S32 32 0))) (broadcastInDim S32x32 ![0, 1] bcast_S32x1_S32x32_0_1 (addi rowStart (broadcastInDim S32x1 ![] bcast_S_S32x1 (constantI S_ 32 8#32)))))

/-- Which key columns lie in a query column's window. -/
def colOk : IVec S64x64 1 :=
  andi (cmpi .sge (broadcastInDim S64x64 ![0, 1] bcast_S1x64_S64x64_0_1 (broadcastInDim S1x64 ![1] bcast_S64_S1x64_1 (iotaInDim S64 32 0))) (broadcastInDim S64x64 ![0, 1] bcast_S64x1_S64x64_0_1 colStart)) (cmpi .slt (broadcastInDim S64x64 ![0, 1] bcast_S1x64_S64x64_0_1 (broadcastInDim S1x64 ![1] bcast_S64_S1x64_1 (iotaInDim S64 32 0))) (broadcastInDim S64x64 ![0, 1] bcast_S64x1_S64x64_0_1 (addi colStart (broadcastInDim S64x1 ![] bcast_S_S64x1 (constantI S_ 32 16#32)))))

/-- Relative row, clamped into the bias table. -/
def relRow : IVec S32x32 32 :=
  minsi (broadcastInDim S32x32 ![] bcast_S_S32x32 (id (constantI S_ 32 14#32))) (maxsi (broadcastInDim S32x32 ![] bcast_S_S32x32 (id (constantI S_ 32 0#32))) (subi (addi (subi (broadcastInDim S32x32 ![0, 1] bcast_S1x32_S32x32_0_1 (broadcastInDim S1x32 ![1] bcast_S32_S1x32_1 (iotaInDim S32 32 0))) (broadcastInDim S32x32 ![0, 1] bcast_S32x1_S32x32_0_1 (broadcastInDim S32x1 ![0] bcast_S32_S32x1_0 (iotaInDim S32 32 0)))) (broadcastInDim S32x32 ![] bcast_S_S32x32 (constantI S_ 32 8#32))) (broadcastInDim S32x32 ![] bcast_S_S32x32 (constantI S_ 32 1#32))))

/-- Relative column, clamped into the bias table. -/
def relCol : IVec S64x64 32 :=
  minsi (broadcastInDim S64x64 ![] bcast_S_S64x64 (id (constantI S_ 32 30#32))) (maxsi (broadcastInDim S64x64 ![] bcast_S_S64x64 (id (constantI S_ 32 0#32))) (subi (addi (subi (broadcastInDim S64x64 ![0, 1] bcast_S1x64_S64x64_0_1 (broadcastInDim S1x64 ![1] bcast_S64_S1x64_1 (iotaInDim S64 32 0))) (broadcastInDim S64x64 ![0, 1] bcast_S64x1_S64x64_0_1 (broadcastInDim S64x1 ![0] bcast_S64_S64x1_0 (iotaInDim S64 32 0)))) (broadcastInDim S64x64 ![] bcast_S_S64x64 (constantI S_ 32 16#32))) (broadcastInDim S64x64 ![] bcast_S_S64x64 (constantI S_ 32 1#32))))

/-- Row index of the bias table, negative indices wrapped. -/
def idxRow : IVec S32x1x32x1 32 :=
  select (cmpi .slt (broadcastInDim S32x1x32x1 ![0, 2] bcast_S32x32_S32x1x32x1_0_2 relRow) (broadcastInDim S32x1x32x1 ![] bcast_S_S32x1x32x1 (constantI S_ 32 0#32))) (addi (broadcastInDim S32x1x32x1 ![0, 2] bcast_S32x32_S32x1x32x1_0_2 relRow) (broadcastInDim S32x1x32x1 ![] bcast_S_S32x1x32x1 (constantI S_ 32 15#32))) (broadcastInDim S32x1x32x1 ![0, 2] bcast_S32x32_S32x1x32x1_0_2 relRow)

/-- Column index of the bias table, negative indices wrapped. -/
def idxCol : IVec S1x64x1x64 32 :=
  select (cmpi .slt (broadcastInDim S1x64x1x64 ![1, 3] bcast_S64x64_S1x64x1x64_1_3 relCol) (broadcastInDim S1x64x1x64 ![] bcast_S_S1x64x1x64 (constantI S_ 32 0#32))) (addi (broadcastInDim S1x64x1x64 ![1, 3] bcast_S64x64_S1x64x1x64_1_3 relCol) (broadcastInDim S1x64x1x64 ![] bcast_S_S1x64x1x64 (constantI S_ 32 31#32))) (broadcastInDim S1x64x1x64 ![1, 3] bcast_S64x64_S1x64x1x64_1_3 relCol)

/-- The index pairs into the bias table. -/
def relIdx : IVec S32x64x32x64x2 32 :=
  concatenate S32x64x32x64x2 4 [⟨S32x64x32x64x1, (broadcastInDim S32x64x32x64x1 ![0, 1, 2, 3] bcast_S32x64x32x64_S32x64x32x64x1_0_1_2_3 (broadcastInDim S32x64x32x64 ![0, 1, 2, 3] bcast_S32x1x32x1_S32x64x32x64_0_1_2_3 idxRow))⟩, ⟨S32x64x32x64x1, (broadcastInDim S32x64x32x64x1 ![0, 1, 2, 3] bcast_S32x64x32x64_S32x64x32x64x1_0_1_2_3 (broadcastInDim S32x64x32x64 ![0, 1, 2, 3] bcast_S1x64x1x64_S32x64x32x64_0_1_2_3 idxCol))⟩] concatenates_S32x64x32x64x1_S32x64x32x64x1_S32x64x32x64x2_d4

/-- Which keys lie in a query's window. -/
def okAll : IVec S32x64x32x64 1 :=
  andi (broadcastInDim S32x64x32x64 ![0, 1, 2, 3] bcast_S32x1x32x1_S32x64x32x64_0_1_2_3 (broadcastInDim S32x1x32x1 ![0, 2] bcast_S32x32_S32x1x32x1_0_2 rowOk)) (broadcastInDim S32x64x32x64 ![0, 1, 2, 3] bcast_S1x64x1x64_S32x64x32x64_0_1_2_3 (broadcastInDim S1x64x1x64 ![1, 3] bcast_S64x64_S1x64x1x64_1_3 colOk))

/-- The bias of every query and key, minus infinity outside the window. -/
def refBias (a2 : FVec Ideal S2x8x15x31 .f32) : FVec Ideal S8x2048x2048 .f32 :=
  shapeCast _ (select (broadcastInDim S8x32x64x32x64 ![1, 2, 3, 4] bcast_S32x64x32x64_S8x32x64x32x64_1_2_3_4 okAll) (Host.gather gather_S8x15x31_S32x64x32x64x2_S8x32x64x32x64_0_12_n_n_12_4_811 (shapeCast _ (extractStridedSlice S1x8x15x31 ![0, 0, 0, 0] a2 slices_S2x8x15x31_S1x8x15x31_0_0_0_0) shapeCasts_S1x8x15x31_S8x15x31) relIdx) (broadcastInDim S8x32x64x32x64 ![] bcast_S_S8x32x64x32x64 (id (constant S_ .f32 0xFF800000#32)))) shapeCasts_S8x32x64x32x64_S8x2048x2048

/-- The queries by head. -/
def refQ (a0 : FVec Ideal S8192x3072 .bf16) : FVec Ideal S4x8x2048x128 .f32 :=
  transpose S4x8x2048x128 [0, 2, 1, 3] (shapeCast _ (extractStridedSlice S4x2048x1024 ![0, 0, 0] (shapeCast _ (extf .f32 a0 bitsLt_bf16_f32) shapeCasts_S8192x3072_S4x2048x3072) slices_S4x2048x3072_S4x2048x1024_0_0_0) shapeCasts_S4x2048x1024_S4x2048x8x128) transposes_S4x2048x8x128_S4x8x2048x128_0_2_1_3

/-- The keys by head. -/
def refK (a0 : FVec Ideal S8192x3072 .bf16) : FVec Ideal S4x8x2048x128 .f32 :=
  transpose S4x8x2048x128 [0, 2, 1, 3] (shapeCast _ (extractStridedSlice S4x2048x1024 ![0, 0, 1024] (shapeCast _ (extf .f32 a0 bitsLt_bf16_f32) shapeCasts_S8192x3072_S4x2048x3072) slices_S4x2048x3072_S4x2048x1024_0_0_1024) shapeCasts_S4x2048x1024_S4x2048x8x128) transposes_S4x2048x8x128_S4x8x2048x128_0_2_1_3

/-- The values by head. -/
def refV (a0 : FVec Ideal S8192x3072 .bf16) : FVec Ideal S4x8x2048x128 .f32 :=
  transpose S4x8x2048x128 [0, 2, 1, 3] (shapeCast _ (extractStridedSlice S4x2048x1024 ![0, 0, 2048] (shapeCast _ (extf .f32 a0 bitsLt_bf16_f32) shapeCasts_S8192x3072_S4x2048x3072) slices_S4x2048x3072_S4x2048x1024_0_0_2048) shapeCasts_S4x2048x1024_S4x2048x8x128) transposes_S4x2048x8x128_S4x8x2048x128_0_2_1_3

/-- The context keys by head. -/
def refKc (a1 : FVec Ideal S1024x3072 .bf16) : FVec Ideal S4x8x256x128 .f32 :=
  transpose S4x8x256x128 [0, 2, 1, 3] (shapeCast _ (extractStridedSlice S4x256x1024 ![0, 0, 1024] (shapeCast _ (extf .f32 a1 bitsLt_bf16_f32) shapeCasts_S1024x3072_S4x256x3072) slices_S4x256x3072_S4x256x1024_0_0_1024) shapeCasts_S4x256x1024_S4x256x8x128) transposes_S4x256x8x128_S4x8x256x128_0_2_1_3

/-- The context values by head. -/
def refVc (a1 : FVec Ideal S1024x3072 .bf16) : FVec Ideal S4x8x256x128 .f32 :=
  transpose S4x8x256x128 [0, 2, 1, 3] (shapeCast _ (extractStridedSlice S4x256x1024 ![0, 0, 2048] (shapeCast _ (extf .f32 a1 bitsLt_bf16_f32) shapeCasts_S1024x3072_S4x256x3072) slices_S4x256x3072_S4x256x1024_0_0_2048) shapeCasts_S4x256x1024_S4x256x8x128) transposes_S4x256x8x128_S4x8x256x128_0_2_1_3

/-- Scores of the latent keys. -/
def refSl (q k : FVec Ideal S4x8x2048x128 .f32) (b : FVec Ideal S8x2048x2048 .f32) : FVec Ideal S4x8x2048x2048 .f32 :=
  addf (mulf (Host.dotGeneral dot_S4x8x2048x128_S4x8x2048x128_S4x8x2048x2048_3_3_2_2_01_01 none q k) (broadcastInDim S4x8x2048x2048 ![] bcast_S_S4x8x2048x2048 (Host.divf (constant S_ .f32 0x3F800000#32) (Host.sqrt (constant S_ .f32 0x43000000#32))))) (broadcastInDim S4x8x2048x2048 ![0, 1, 2, 3] bcast_S1x8x2048x2048_S4x8x2048x2048_0_1_2_3 (broadcastInDim S1x8x2048x2048 ![1, 2, 3] bcast_S8x2048x2048_S1x8x2048x2048_1_2_3 b))

/-- Scores of the context keys. -/
def refSx (q : FVec Ideal S4x8x2048x128 .f32) (kc : FVec Ideal S4x8x256x128 .f32) : FVec Ideal S4x8x2048x256 .f32 :=
  mulf (Host.dotGeneral dot_S4x8x2048x128_S4x8x256x128_S4x8x2048x256_3_3_2_2_01_01 none q kc) (broadcastInDim S4x8x2048x256 ![] bcast_S_S4x8x2048x256 (Host.divf (constant S_ .f32 0x3F800000#32) (Host.sqrt (constant S_ .f32 0x43000000#32))))

/-- All scores. -/
def refS (sl : FVec Ideal S4x8x2048x2048 .f32) (sx : FVec Ideal S4x8x2048x256 .f32) : FVec Ideal S4x8x2048x2304 .f32 :=
  concatenate S4x8x2048x2304 3 [⟨S4x8x2048x2048, sl⟩, ⟨S4x8x2048x256, sx⟩] concatenates_S4x8x2048x2048_S4x8x2048x256_S4x8x2048x2304_d3

/-- The largest score of each query. -/
def refM (s : FVec Ideal S4x8x2048x2304 .f32) : FVec Ideal S4x8x2048 .f32 :=
  maximumf (broadcastInDim S4x8x2048 ![] bcast_S_S4x8x2048 (constant S_ .f32 0xFF800000#32)) (Host.reduce FloatOps.maximumf s (constant S_ .f32 0xFF800000#32) reducesTo_S4x8x2048x2304_S4x8x2048_d3 h_S_)

/-- The exponentials of the softmax. -/
def refE (s : FVec Ideal S4x8x2048x2304 .f32) (mx : FVec Ideal S4x8x2048 .f32) : FVec Ideal S4x8x2048x2304 .f32 :=
  Host.exp (subf s (broadcastInDim S4x8x2048x2304 ![0, 1, 2, 3] bcast_S4x8x2048x1_S4x8x2048x2304_0_1_2_3 (broadcastInDim S4x8x2048x1 ![0, 1, 2] bcast_S4x8x2048_S4x8x2048x1_0_1_2 mx)))

/-- The sums of the exponentials. -/
def refD (e : FVec Ideal S4x8x2048x2304 .f32) : FVec Ideal S4x8x2048 .f32 :=
  Host.reduceAdd e (constant S_ .f32 0x00000000#32) reducesTo_S4x8x2048x2304_S4x8x2048_d3 h_S_

/-- The quotients. -/
def refP (e : FVec Ideal S4x8x2048x2304 .f32) (dn : FVec Ideal S4x8x2048 .f32) : FVec Ideal S4x8x2048x2304 .f32 :=
  Host.divf e (broadcastInDim S4x8x2048x2304 ![0, 1, 2, 3] bcast_S4x8x2048x1_S4x8x2048x2304_0_1_2_3 (broadcastInDim S4x8x2048x1 ![0, 1, 2] bcast_S4x8x2048_S4x8x2048x1_0_1_2 dn))

/-- The weighted values, the heads side by side. -/
def refOut (p : FVec Ideal S4x8x2048x2304 .f32) (v : FVec Ideal S4x8x2048x128 .f32) (vc : FVec Ideal S4x8x256x128 .f32) : FVec Ideal S4x2048x1024 .bf16 :=
  truncf .bf16 (shapeCast _ (transpose S4x2048x8x128 [0, 2, 1, 3] (addf (Host.dotGeneral dot_S4x8x2048x2048_S4x8x2048x128_S4x8x2048x128_3_2_2_3_01_01 none (extractStridedSlice S4x8x2048x2048 ![0, 0, 0, 0] p slices_S4x8x2048x2304_S4x8x2048x2048_0_0_0_0) v) (Host.dotGeneral dot_S4x8x2048x256_S4x8x256x128_S4x8x2048x128_3_2_2_3_01_01 none (extractStridedSlice S4x8x2048x256 ![0, 0, 0, 2048] p slices_S4x8x2048x2304_S4x8x2048x256_0_0_0_2048) vc)) transposes_S4x8x2048x128_S4x2048x8x128_0_2_1_3) shapeCasts_S4x2048x8x128_S4x2048x1024) bitsLt_bf16_f32

/-- The softmax of the scores. -/
def refSoft (s : FVec Ideal S4x8x2048x2304 .f32) : FVec Ideal S4x8x2048x2304 .f32 :=
  refP (refE s (refM s)) (refD (refE s (refM s)))

/-- The reference's result by its stages. -/
def REF (a0 : FVec Ideal S8192x3072 .bf16) (a1 : FVec Ideal S1024x3072 .bf16) (a2 : FVec Ideal S2x8x15x31 .f32) : FVec Ideal S4x2048x1024 .bf16 :=
  refOut (refSoft (refS (refSl (refQ a0) (refK a0) (refBias a2)) (refSx (refQ a0) (refKc a1)))) (refV a0) (refVc a1)

theorem res_eq (m : (ℓ : Loc nD τ sig) → Buf (Elt Ideal) ℓ) (c : Dev nD) :
    res_out0 m c = REF (m ((c.tc : Thread nD τ).loc main_arg0)) (m ((c.tc : Thread nD τ).loc main_arg1)) (m ((c.tc : Thread nD τ).loc main_arg2)) := rfl

theorem refM_at (s) (y : S4x8x2048.Idx) :
    refM s y = Finset.univ.sup fun k : Fin 2304 => s (ix4 (y 0) (y 1) (y 2) k) := by
  have hr : S4x8x2048x2304.Reduces [3] S4x8x2048 := by decide
  have hl : ∀ k : Fin 2304, hr.lift y k = ix4 (y 0) (y 1) (y 2) k := by
    intro k; funext a; fin_cases a <;> rfl
  unfold refM
  rw [Cert.MaxAt.maximumf_at, Cert.MaxAt.hostMax_at s _ reducesTo_S4x8x2048x2304_S4x8x2048_d3 hr h_S_ y Cert.MaxAt.ofBits_ninf]
  rw [show broadcastInDim S4x8x2048 ![] bcast_S_S4x8x2048 (constant (F := Ideal) S_ .f32 0xFF800000#32) y = (⊥ : EReal) from
    Cert.MaxAt.ofBits_ninf]
  rw [max_eq_right bot_le]
  exact Finset.sup_congr rfl fun k _ => congrArg s (hl k)

theorem refE_at (s mx) (y : S4x8x2048x2304.Idx) :
    refE s mx y = Ideal.exp (s y - mx (ix3 (y 0) (y 1) (y 2))) := by
  pointwise [refE]

theorem refD_at (e) (y : S4x8x2048.Idx) : refD e y = ∑ k : Fin 2304, e (ix4 (y 0) (y 1) (y 2) k) := by
  pointwise [refD]

theorem refP_at (e dn) (y : S4x8x2048x2304.Idx) :
    refP e dn y = Ideal.div (e y) (dn (ix3 (y 0) (y 1) (y 2))) := by
  pointwise [refP]

theorem refS_at (sl sx) (y : S4x8x2048x2304.Idx) :
    refS sl sx y = if h : (y 3).val < 2048 then sl (ix4 (y 0) (y 1) (y 2) ⟨(y 3).val, h⟩)
      else sx (ix4 (y 0) (y 1) (y 2) ⟨(y 3).val - 2048, by have h3 : (y 3).val < 2304 := (y 3).isLt; omega⟩) := by
  pointwise [refS]

theorem refSl_at (q k b) (y : S4x8x2048x2048.Idx) : refSl q k b y
    = (∑ d : Fin 128, q (ix4 (y 0) (y 1) (y 2) d) * k (ix4 (y 0) (y 1) (y 3) d))
      * Ideal.div 1 (Ideal.sqrt (Ideal.ofBits .f32 0x43000000#32)) + b (ix3 (y 1) (y 2) (y 3)) := by
  pointwise [refSl]

theorem refSx_at (q k) (y : S4x8x2048x256.Idx) : refSx q k y
    = (∑ d : Fin 128, q (ix4 (y 0) (y 1) (y 2) d) * k (ix4 (y 0) (y 1) (y 3) d))
      * Ideal.div 1 (Ideal.sqrt (Ideal.ofBits .f32 0x43000000#32)) := by
  pointwise [refSx]

/-- Row of the flat latent arrays. -/
def row (b : Fin 4) (i : Fin 2048) : Fin 8192 := ⟨b.val * 2048 + i.val, by omega⟩
/-- Row of the flat context arrays. -/
def rowC (b : Fin 4) (l : Fin 256) : Fin 1024 := ⟨b.val * 256 + l.val, by omega⟩
/-- Column of part `o` (queries, keys, values), head `h`, lane `d`. -/
def col (o : Fin 3) (h : Fin 8) (d : Fin 128) : Fin 3072 := ⟨o.val * 1024 + (h.val * 128 + d.val), by omega⟩

theorem refQ_at (a : FVec Ideal S8192x3072 .bf16) (b : Fin 4) (h : Fin 8) (i : Fin 2048) (d : Fin 128) :
    refQ a (ix4 b h i d) = a (ix2 (row b i) (col 0 h d)) := by
  pointwise [refQ]
  congr 2; exact Fin.ext (by show h.val * 128 + d.val = 0 * 1024 + (h.val * 128 + d.val); omega)

theorem refK_at (a : FVec Ideal S8192x3072 .bf16) (b : Fin 4) (h : Fin 8) (i : Fin 2048) (d : Fin 128) :
    refK a (ix4 b h i d) = a (ix2 (row b i) (col 1 h d)) := by
  pointwise [refK]
  congr 2

theorem refV_at (a : FVec Ideal S8192x3072 .bf16) (b : Fin 4) (h : Fin 8) (i : Fin 2048) (d : Fin 128) :
    refV a (ix4 b h i d) = a (ix2 (row b i) (col 2 h d)) := by
  pointwise [refV]
  congr 2

theorem refKc_at (a : FVec Ideal S1024x3072 .bf16) (b : Fin 4) (h : Fin 8) (l : Fin 256) (d : Fin 128) :
    refKc a (ix4 b h l d) = a (ix2 (rowC b l) (col 1 h d)) := by
  pointwise [refKc]
  congr 2

theorem refVc_at (a : FVec Ideal S1024x3072 .bf16) (b : Fin 4) (h : Fin 8) (l : Fin 256) (d : Fin 128) :
    refVc a (ix4 b h l d) = a (ix2 (rowC b l) (col 2 h d)) := by
  pointwise [refVc]
  congr 2

theorem refOut_at (p v vc) (y : S4x2048x1024.Idx) : refOut p v vc y
    = (∑ k : Fin 2048, p (ix4 (y 0) (⟨(y 2).val / 128, by have h : (y 2).val < 1024 := (y 2).isLt; omega⟩ : Fin 8) (y 1) (⟨k.val, by omega⟩ : Fin 2304))
        * v (ix4 (y 0) (⟨(y 2).val / 128, by have h : (y 2).val < 1024 := (y 2).isLt; omega⟩ : Fin 8) k (⟨(y 2).val % 128, by omega⟩ : Fin 128)))
      + ∑ l : Fin 256, p (ix4 (y 0) (⟨(y 2).val / 128, by have h : (y 2).val < 1024 := (y 2).isLt; omega⟩ : Fin 8) (y 1) (⟨2048 + l.val, by omega⟩ : Fin 2304))
        * vc (ix4 (y 0) (⟨(y 2).val / 128, by have h : (y 2).val < 1024 := (y 2).isLt; omega⟩ : Fin 8) l (⟨(y 2).val % 128, by omega⟩ : Fin 128)) := by
  pointwise [refOut]

open Cert.Window

theorem rowOk_eq : ∀ q k : Fin 32, rowOk (ix2 q k) = BitVec.ofBool (inWin 32 8 q.val k.val) := by decide +kernel
theorem colOk_eq : ∀ q k : Fin 64, colOk (ix2 q k) = BitVec.ofBool (inWin 64 16 q.val k.val) := by decide +kernel
theorem idxRow_eq : ∀ q k : Fin 32, (idxRow (ix4 q (0 : Fin 1) k (0 : Fin 1))).toInt.toNat = min (k.val + 7 - q.val) 14 := by decide +kernel
theorem idxCol_eq : ∀ q k : Fin 64, (idxCol (ix4 (0 : Fin 1) q (0 : Fin 1) k)).toInt.toNat = min (k.val + 15 - q.val) 30 := by decide +kernel

theorem relIdx_row (qr : Fin 32) (qc : Fin 64) (kr : Fin 32) (kc : Fin 64) :
    relIdx (ix5 qr qc kr kc (0 : Fin 2)) = idxRow (ix4 qr (0 : Fin 1) kr (0 : Fin 1)) := by
  pointwise [relIdx]
theorem relIdx_col (qr : Fin 32) (qc : Fin 64) (kr : Fin 32) (kc : Fin 64) :
    relIdx (ix5 qr qc kr kc (1 : Fin 2)) = idxCol (ix4 (0 : Fin 1) qc (0 : Fin 1) kc) := by
  pointwise [relIdx]

theorem gather_at (x : FVec Ideal S8x15x31 .f32) (idx : IVec S32x64x32x64x2 32) (y : S8x32x64x32x64.Idx) :
    Host.gather gather_S8x15x31_S32x64x32x64x2_S8x32x64x32x64_0_12_n_n_12_4_811 x idx y
      = x (ix3 (y 0) (⟨min (idx (ix5 (y 1) (y 2) (y 3) (y 4) (0 : Fin 2))).toInt.toNat 14, by omega⟩ : Fin 15)
          (⟨min (idx (ix5 (y 1) (y 2) (y 3) (y 4) (1 : Fin 2))).toInt.toNat 30, by omega⟩ : Fin 31)) := by
  unfold Host.gather
  congr 1
  funext a
  refine Fin.ext ?_
  match a with
  | ⟨0, _⟩ =>
    show GatherDims.start _ y idx 0 + GatherDims.batchCoord _ y 0 + GatherDims.offCoord _ y 0 = _
    rw [GatherDims.batchCoord_eq_zero _ _ _ List.not_mem_nil]
    unfold GatherDims.start
    rw [dif_neg (by decide)]
    unfold GatherDims.offCoord
    rw [dif_pos (by decide)]
    simp only [Nat.zero_add, Nat.add_zero]
    rfl
  | ⟨1, _⟩ =>
    show GatherDims.start _ y idx 1 + GatherDims.batchCoord _ y 1 + GatherDims.offCoord _ y 1 = _
    rw [GatherDims.batchCoord_eq_zero _ _ _ List.not_mem_nil,
      GatherDims.offCoord_eq_zero _ _ _ (by decide)]
    simp only [Nat.add_zero]
    unfold GatherDims.start
    rw [dif_pos (by decide)]
    have hsi : GatherDims.siIdx gather_S8x15x31_S32x64x32x64x2_S8x32x64x32x64_0_12_n_n_12_4_811 y ⟨0, by decide⟩
        = ix5 (y 1) (y 2) (y 3) (y 4) (0 : Fin 2) := by
      funext b; refine Fin.ext ?_
      match b with
      | ⟨0, _⟩ => rfl
      | ⟨1, _⟩ => rfl
      | ⟨2, _⟩ => rfl
      | ⟨3, _⟩ => rfl
      | ⟨4, _⟩ => rfl
    exact congrArg (fun i => min (idx i).toInt.toNat 14) hsi
  | ⟨2, _⟩ =>
    show GatherDims.start _ y idx 2 + GatherDims.batchCoord _ y 2 + GatherDims.offCoord _ y 2 = _
    rw [GatherDims.batchCoord_eq_zero _ _ _ List.not_mem_nil,
      GatherDims.offCoord_eq_zero _ _ _ (by decide)]
    simp only [Nat.add_zero]
    unfold GatherDims.start
    rw [dif_pos (by decide)]
    have hsi : GatherDims.siIdx gather_S8x15x31_S32x64x32x64x2_S8x32x64x32x64_0_12_n_n_12_4_811 y ⟨1, by decide⟩
        = ix5 (y 1) (y 2) (y 3) (y 4) (1 : Fin 2) := by
      funext b; refine Fin.ext ?_
      match b with
      | ⟨0, _⟩ => rfl
      | ⟨1, _⟩ => rfl
      | ⟨2, _⟩ => rfl
      | ⟨3, _⟩ => rfl
      | ⟨4, _⟩ => rfl
    exact congrArg (fun i => min (idx i).toInt.toNat 30) hsi

/-- The first layer's table by head. -/
def tab (a2 : FVec Ideal S2x8x15x31 .f32) : FVec Ideal S8x15x31 .f32 :=
  shapeCast _ (extractStridedSlice S1x8x15x31 ![0, 0, 0, 0] a2 slices_S2x8x15x31_S1x8x15x31_0_0_0_0) shapeCasts_S1x8x15x31_S8x15x31

theorem tab_at (a2 : FVec Ideal S2x8x15x31 .f32) (h : Fin 8) (r : Fin 15) (c : Fin 31) :
    tab a2 (ix3 h r c) = a2 (ix4 (0 : Fin 2) h r c) := by
  pointwise [tab]

theorem refBias_read (a2 : FVec Ideal S2x8x15x31 .f32) (h : Fin 8) (i j : Fin 2048) :
    refBias a2 (ix3 h i j)
      = Scalar.select (IntOp.andi (rowOk (ix2 (⟨i.val / 64, by omega⟩ : Fin 32) (⟨j.val / 64, by omega⟩ : Fin 32)))
            (colOk (ix2 (⟨i.val % 64, by omega⟩ : Fin 64) (⟨j.val % 64, by omega⟩ : Fin 64))))
          (Host.gather gather_S8x15x31_S32x64x32x64x2_S8x32x64x32x64_0_12_n_n_12_4_811 (tab a2) relIdx
            (ix5 h (⟨i.val / 64, by omega⟩ : Fin 32) (⟨i.val % 64, by omega⟩ : Fin 64) (⟨j.val / 64, by omega⟩ : Fin 32) (⟨j.val % 64, by omega⟩ : Fin 64)))
          (Ideal.ofBits .f32 0xFF800000#32) := by
  pointwise [refBias, okAll]
  rfl

/-- The table at a row and a column, each clamped. -/
def tabN (x : FVec Ideal S8x15x31 .f32) (h : Fin 8) (r c : Nat) : EReal :=
  x (ix3 h (⟨min r 14, by omega⟩ : Fin 15) (⟨min c 30, by omega⟩ : Fin 31))

theorem gather_ix (x : FVec Ideal S8x15x31 .f32) (idx : IVec S32x64x32x64x2 32) (h : Fin 8) (qr : Fin 32) (qc : Fin 64) (kr : Fin 32) (kc : Fin 64) :
    Host.gather gather_S8x15x31_S32x64x32x64x2_S8x32x64x32x64_0_12_n_n_12_4_811 x idx (ix5 h qr qc kr kc)
      = tabN x h (idx (ix5 qr qc kr kc (0 : Fin 2))).toInt.toNat (idx (ix5 qr qc kr kc (1 : Fin 2))).toInt.toNat :=
  gather_at x idx (ix5 h qr qc kr kc)

theorem tabN_tab (a2 : FVec Ideal S2x8x15x31 .f32) (h : Fin 8) (r c : Nat) :
    tabN (tab a2) h (min r 14) (min c 30)
      = a2 (ix4 (0 : Fin 2) h (⟨min r 14, by omega⟩ : Fin 15) (⟨min c 30, by omega⟩ : Fin 31)) := by
  unfold tabN
  rw [tab_at]
  simp only [min_assoc, min_self]

theorem refBias_at (a2 : FVec Ideal S2x8x15x31 .f32) (h : Fin 8) (i j : Fin 2048) :
    refBias a2 (ix3 h i j)
      = bias (fun r c => a2 (ix4 (0 : Fin 2) h r c)) (i.val / 64) (i.val % 64) (j.val / 64) (j.val % 64) := by
  rw [refBias_read, rowOk_eq, colOk_eq, and_ofBool, gather_ix, select_ofBool, MaxAt.ofBits_ninf]
  have e1 := idxRow_eq ⟨i.val / 64, by omega⟩ ⟨j.val / 64, by omega⟩
  have e2 := idxCol_eq ⟨i.val % 64, by omega⟩ ⟨j.val % 64, by omega⟩
  unfold bias
  by_cases h1 : inWin 32 8 (i.val / 64) (j.val / 64) = true
  · by_cases h2 : inWin 64 16 (i.val % 64) (j.val % 64) = true
    · rw [if_pos (by rw [Bool.and_eq_true]; exact ⟨h1, h2⟩), if_pos ⟨h1, h2⟩]
      rw [relIdx_row, relIdx_col, e1, e2, tabN_tab]
    · rw [if_neg (by rw [Bool.and_eq_true]; exact fun h => h2 h.2), if_neg (fun h => h2 h.2)]
  · rw [if_neg (by rw [Bool.and_eq_true]; exact fun h => h1 h.1), if_neg (fun h => h1 h.1)]

end Cert.ReferenceIdeal.Value
-- ==== Proof.RefFull.lean ====
/- The plain definition's result at an index: one softmax over the latent keys and the context keys. -/
module

public import proofs.«01_k».proof.Proof.RefAt

@[expose] public section

set_option maxRecDepth 16384

noncomputable section

namespace Cert.ReferenceIdeal.Value

open Cert.ReferenceIdeal Cert.ReferenceIdeal.Gen Idealize.ShloMosaic Idealize.ShloMosaic.TcCoe Idealize.SL.Sem
open scoped BigOperators

/-- The factor of the scores, `1 / √128`. -/
def S : EReal := Ideal.div 1 (Ideal.sqrt (Ideal.ofBits .f32 0x43000000#32))

theorem sum_split (g : Fin 2304 → EReal) :
    ∑ k, g k = (∑ j : Fin 2048, g ⟨j.val, by omega⟩) + ∑ l : Fin 256, g ⟨2048 + l.val, by omega⟩ :=
  Fin.sum_univ_add (a := 2048) (b := 256) g

theorem sup_split (g : Fin 2304 → EReal) :
    Finset.univ.sup g = max (Finset.univ.sup fun j : Fin 2048 => g ⟨j.val, by omega⟩)
      (Finset.univ.sup fun l : Fin 256 => g ⟨2048 + l.val, by omega⟩) := by
  refine le_antisymm (Finset.sup_le fun k _ => ?_) (max_le (Finset.sup_le fun j _ => Finset.le_sup (f := g) (Finset.mem_univ _))
    (Finset.sup_le fun l _ => Finset.le_sup (f := g) (Finset.mem_univ _)))
  by_cases hk : k.val < 2048
  · exact le_trans (Finset.le_sup (f := fun j : Fin 2048 => g ⟨j.val, by omega⟩) (Finset.mem_univ (⟨k.val, hk⟩ : Fin 2048))) (le_max_left _ _)
  · have e : k = ⟨2048 + (k.val - 2048), by omega⟩ := Fin.ext (by show k.val = 2048 + (k.val - 2048); omega)
    refine le_trans ?_ (le_max_right _ _)
    have := Finset.le_sup (f := fun l : Fin 256 => g ⟨2048 + l.val, by omega⟩) (Finset.mem_univ (⟨k.val - 2048, by omega⟩ : Fin 256))
    rw [e]
    exact this

theorem refS_lat (sl sx) (b : Fin 4) (h : Fin 8) (i j : Fin 2048) :
    refS sl sx (ix4 b h i (⟨j.val, by omega⟩ : Fin 2304)) = sl (ix4 b h i j) := by
  rw [refS_at]
  exact dif_pos j.isLt

theorem refS_ctx (sl sx) (b : Fin 4) (h : Fin 8) (i : Fin 2048) (l : Fin 256) :
    refS sl sx (ix4 b h i (⟨2048 + l.val, by omega⟩ : Fin 2304)) = sx (ix4 b h i l) := by
  rw [refS_at]
  refine (dif_neg (by show ¬ 2048 + l.val < 2048; omega)).trans ?_
  congr 1
  congr 1
  exact Fin.ext (by show 2048 + l.val - 2048 = l.val; omega)

theorem refSoft_at (s) (b : Fin 4) (h : Fin 8) (i : Fin 2048) (k : Fin 2304) :
    refSoft s (ix4 b h i k)
      = Ideal.div (Ideal.exp (s (ix4 b h i k) - Finset.univ.sup fun k : Fin 2304 => s (ix4 b h i k)))
          (∑ k : Fin 2304, Ideal.exp (s (ix4 b h i k) - Finset.univ.sup fun k : Fin 2304 => s (ix4 b h i k))) := by
  have hm : refM s (ix3 b h i) = Finset.univ.sup fun k : Fin 2304 => s (ix4 b h i k) := refM_at s (ix3 b h i)
  have he : ∀ k : Fin 2304, refE s (refM s) (ix4 b h i k) = Ideal.exp (s (ix4 b h i k) - refM s (ix3 b h i)) := fun k =>
    refE_at s (refM s) (ix4 b h i k)
  have hd : refD (refE s (refM s)) (ix3 b h i) = ∑ k : Fin 2304, refE s (refM s) (ix4 b h i k) :=
    refD_at (refE s (refM s)) (ix3 b h i)
  have hp : refSoft s (ix4 b h i k) = Ideal.div (refE s (refM s) (ix4 b h i k)) (refD (refE s (refM s)) (ix3 b h i)) :=
    refP_at _ _ (ix4 b h i k)
  rw [hp, hd]
  simp only [he, hm]

/-- Score of a latent query and a latent key, of batch `b` and head `h`. -/
def lat (a0 : FVec Ideal S8192x3072 .bf16) (a2 : FVec Ideal S2x8x15x31 .f32) (b : Fin 4) (h : Fin 8) (i k : Fin 2048) : EReal :=
  (∑ d : Fin 128, a0 (ix2 (row b i) (col 0 h d)) * a0 (ix2 (row b k) (col 1 h d))) * S
    + Window.bias (fun r c => a2 (ix4 (0 : Fin 2) h r c)) (i.val / 64) (i.val % 64) (k.val / 64) (k.val % 64)

/-- Score of a latent query and a context key. -/
def ctx (a0 : FVec Ideal S8192x3072 .bf16) (a1 : FVec Ideal S1024x3072 .bf16) (b : Fin 4) (h : Fin 8) (i : Fin 2048) (l : Fin 256) : EReal :=
  (∑ d : Fin 128, a0 (ix2 (row b i) (col 0 h d)) * a1 (ix2 (rowC b l) (col 1 h d))) * S

theorem REF_at (a0 : FVec Ideal S8192x3072 .bf16) (a1 : FVec Ideal S1024x3072 .bf16) (a2 : FVec Ideal S2x8x15x31 .f32)
    (b : Fin 4) (i : Fin 2048) (h : Fin 8) (e : Fin 128) (n : Fin 1024) (hn : n.val = h.val * 128 + e.val) :
    REF a0 a1 a2 (ix3 b i n) = Softmax.full (lat a0 a2 b h i) (ctx a0 a1 b h i)
      (fun k => a0 (ix2 (row b k) (col 2 h e))) (fun l => a1 (ix2 (rowC b l) (col 2 h e))) := by
  have hh : (⟨n.val / 128, by omega⟩ : Fin 8) = h := Fin.ext (by show n.val / 128 = h.val; omega)
  have hE : (⟨n.val % 128, by omega⟩ : Fin 128) = e := Fin.ext (by show n.val % 128 = e.val; omega)
  have h1 : ∀ p v vc, refOut p v vc (ix3 b i n)
      = (∑ k : Fin 2048, p (ix4 b h i (⟨k.val, by omega⟩ : Fin 2304)) * v (ix4 b h k e))
        + ∑ l : Fin 256, p (ix4 b h i (⟨2048 + l.val, by omega⟩ : Fin 2304)) * vc (ix4 b h l e) := by
    intro p v vc
    refine (refOut_at p v vc (ix3 b i n)).trans ?_
    show (∑ k : Fin 2048, p (ix4 b (⟨n.val / 128, by omega⟩ : Fin 8) i (⟨k.val, by omega⟩ : Fin 2304))
          * v (ix4 b (⟨n.val / 128, by omega⟩ : Fin 8) k (⟨n.val % 128, by omega⟩ : Fin 128)))
        + ∑ l : Fin 256, p (ix4 b (⟨n.val / 128, by omega⟩ : Fin 8) i (⟨2048 + l.val, by omega⟩ : Fin 2304))
          * vc (ix4 b (⟨n.val / 128, by omega⟩ : Fin 8) l (⟨n.val % 128, by omega⟩ : Fin 128)) = _
    rw [hh, hE]
  have hl : ∀ k : Fin 2048, refSl (refQ a0) (refK a0) (refBias a2) (ix4 b h i k) = lat a0 a2 b h i k := by
    intro k
    refine (refSl_at _ _ _ (ix4 b h i k)).trans ?_
    show (∑ d : Fin 128, refQ a0 (ix4 b h i d) * refK a0 (ix4 b h k d)) * S + refBias a2 (ix3 h i k) = _
    simp only [refQ_at, refK_at, refBias_at]
    rfl
  have hc : ∀ l : Fin 256, refSx (refQ a0) (refKc a1) (ix4 b h i l) = ctx a0 a1 b h i l := by
    intro l
    refine (refSx_at _ _ (ix4 b h i l)).trans ?_
    show (∑ d : Fin 128, refQ a0 (ix4 b h i d) * refKc a1 (ix4 b h l d)) * S = _
    simp only [refQ_at, refKc_at]
    rfl
  unfold REF
  rw [h1]
  simp only [refSoft_at, sum_split, sup_split, refS_lat, refS_ctx, hl, hc, refV_at, refVc_at]
  rfl

end Cert.ReferenceIdeal.Value
-- ==== Proof.Head.lean ====
/- One head's output of a query group is the plain definition's. -/
module

public import proofs.«01_k».proof.Proof.BandBias
public import proofs.«01_k».proof.Proof.RefFull

@[expose] public section

set_option maxRecDepth 16384

noncomputable section

namespace Cert.KernelIdeal.Value

open Cert.KernelIdeal Cert.KernelIdeal.Gen Idealize.ShloMosaic Idealize.ShloMosaic.TcCoe Idealize.SL.Sem
open Cert.Window
open Cert.ReferenceIdeal.Value (row rowC col lat ctx)
open scoped BigOperators

/-- One head's output of a query group, from its blocks. -/
def payH (q : Vec Ideal S1x256x128 .bf16) (k : Vec Ideal S1x768x128 .bf16) (kc : Vec Ideal S1x256x128 .bf16)
    (b : Vec Ideal S1x1x1x256x768 .f32) (v : Vec Ideal S1x768x128 .bf16) (vc : Vec Ideal S1x256x128 .bf16) : FVec Ideal S1x256x128 .bf16 :=
  k0_pay18 (k0_pay15 (k0_pay3 q k) b) (k0_pay16 (k0_pay4 q kc)) (k0_pay17 (k0_pay3 q k) (k0_pay4 q kc) b) v vc

/-- The scores' factor in powers of two. -/
def scale2 : EReal := (((Real.sqrt 128)⁻¹ * (Real.log 2)⁻¹ : ℝ) : EReal)

theorem payH_at (q : Vec Ideal S1x256x128 .bf16) (k : Vec Ideal S1x768x128 .bf16) (kc : Vec Ideal S1x256x128 .bf16)
    (b : Vec Ideal S1x1x1x256x768 .f32) (v : Vec Ideal S1x768x128 .bf16) (vc : Vec Ideal S1x256x128 .bf16) (x : S1x256x128.Idx) :
    payH q k kc b v vc x = Softmax.band
      (fun t => (∑ d : Fin 128, q (ix3 (0 : Fin 1) (x 1) d) * k (ix3 (0 : Fin 1) t d)) * scale2
        + b (ix5 (0 : Fin 1) (0 : Fin 1) (0 : Fin 1) (x 1) t))
      (fun l => (∑ d : Fin 128, q (ix3 (0 : Fin 1) (x 1) d) * kc (ix3 (0 : Fin 1) l d)) * scale2)
      (fun t => v (ix3 (0 : Fin 1) t (x 2))) (fun l => vc (ix3 (0 : Fin 1) l (x 2))) := by
  pointwise [payH, k0_pay18, k0_pay15, k0_pay16, k0_pay17, k0_pay3, k0_pay4, k0_pay2]
  simp only [MaxAt.ofBits_ninf, MaxAt.fold_max]
  rfl

theorem ofBits_128 : Ideal.ofBits .f32 0x43000000#32 = ((128 : ℝ) : EReal) := by
  simp [Ideal.ofBits, Ideal.ieee, -EReal.coe_mul]
  norm_num

theorem S_eq : Cert.ReferenceIdeal.Value.S = (((Real.sqrt 128)⁻¹ : ℝ) : EReal) := by
  have h0 : (0 : ℝ) < Real.sqrt 128 := Real.sqrt_pos.2 (by norm_num)
  unfold Cert.ReferenceIdeal.Value.S
  rw [ofBits_128, Ideal.sqrt_coe, if_neg (by norm_num), Ideal.div_coe h0.ne', one_mul, one_div]

theorem scale2_eq (a : EReal) : a * scale2 = a * Cert.ReferenceIdeal.Value.S * (Softmax.L : EReal) := by
  rw [S_eq, mul_assoc, ← EReal.coe_mul]
  rfl

/-- Key `t` of the band of query group `g`. -/
def key (g : Fin 8) (t : Fin 768) : Fin 2048 := ⟨bandOf g * 64 + t.val, by have := bandOf_le g; omega⟩

theorem key_inj (g : Fin 8) : Function.Injective (key g) := fun a b h => by
  have e : bandOf g * 64 + a.val = bandOf g * 64 + b.val := congrArg Fin.val h
  exact Fin.ext (by omega)

/-- Query `r` of query group `g`. -/
def query (g : Fin 8) (r : Fin 256) : Fin 2048 := ⟨256 * g.val + r.val, by omega⟩

theorem dot_real (f g : Fin 128 → EReal) (hf : ∀ d, ∃ x : ℝ, f d = x) (hg : ∀ d, ∃ x : ℝ, g d = x) :
    ∃ x : ℝ, ∑ d, f d * g d = (x : EReal) := by
  choose u hu using hf
  choose w hw using hg
  exact ⟨∑ d, u d * w d, by rw [Softmax.coe_sum]; exact Finset.sum_congr rfl fun d _ => by rw [hu, hw, EReal.coe_mul]⟩

theorem band_congr {β γ : Type} [Fintype β] [Fintype γ] {a a' : β → EReal} {c c' : γ → EReal} {v v' : β → EReal} {w w' : γ → EReal}
    (ha : ∀ t, a t = a' t) (hc : ∀ l, c l = c' l) (hv : ∀ t, v t = v' t) (hw : ∀ l, w l = w' l) :
    Softmax.band a c v w = Softmax.band a' c' v' w' := by
  rw [funext ha, funext hc, funext hv, funext hw]

theorem head_eq (a0 : FVec Ideal S8192x3072 .bf16) (a1 : FVec Ideal S1024x3072 .bf16) (a2 : FVec Ideal S2x8x15x31 .f32)
    (f0 : ∀ (r : Fin 8192) (n : Fin 3072), n.val < 2048 → ∃ x : ℝ, a0 (ix2 r n) = x)
    (f1 : ∀ (r : Fin 1024) (n : Fin 3072), 1024 ≤ n.val → n.val < 2048 → ∃ x : ℝ, a1 (ix2 r n) = x)
    (f2 : ∀ (i : Fin 8) (j : Fin 15) (k : Fin 31), a2 (ix4 (0 : Fin 2) i j k) ≠ (⊤ : EReal))
    (b : Fin 4) (g h : Fin 8)
    (q : Vec Ideal S1x256x128 .bf16) (k : Vec Ideal S1x768x128 .bf16) (kc : Vec Ideal S1x256x128 .bf16)
    (bb : Vec Ideal S1x1x1x256x768 .f32) (v : Vec Ideal S1x768x128 .bf16) (vc : Vec Ideal S1x256x128 .bf16)
    (hq : ∀ (r : Fin 256) (d : Fin 128), q (ix3 (0 : Fin 1) r d) = a0 (ix2 (row b (query g r)) (col 0 h d)))
    (hk : ∀ (t : Fin 768) (d : Fin 128), k (ix3 (0 : Fin 1) t d) = a0 (ix2 (row b (key g t)) (col 1 h d)))
    (hkc : ∀ (l : Fin 256) (d : Fin 128), kc (ix3 (0 : Fin 1) l d) = a1 (ix2 (rowC b l) (col 1 h d)))
    (hb : ∀ (r : Fin 256) (t : Fin 768), bb (ix5 (0 : Fin 1) (0 : Fin 1) (0 : Fin 1) r t) = bandBias a2 (ix5 (0 : Fin 2) (pat g) h r t))
    (hv : ∀ (t : Fin 768) (d : Fin 128), v (ix3 (0 : Fin 1) t d) = a0 (ix2 (row b (key g t)) (col 2 h d)))
    (hvc : ∀ (l : Fin 256) (d : Fin 128), vc (ix3 (0 : Fin 1) l d) = a1 (ix2 (rowC b l) (col 2 h d)))
    (r : Fin 256) (e : Fin 128) (n : Fin 1024) (hn : n.val = h.val * 128 + e.val) :
    payH q k kc bb v vc (ix3 (0 : Fin 1) r e) = Cert.ReferenceIdeal.Value.REF a0 a1 a2 (ix3 b (query g r) n) := by
  have fq : ∀ d : Fin 128, ∃ x : ℝ, a0 (ix2 (row b (query g r)) (col 0 h d)) = x := fun d =>
    f0 _ _ (by show 0 * 1024 + (h.val * 128 + d.val) < 2048; omega)
  have hL : (0 : EReal) ≤ (Softmax.L : EReal) := by exact_mod_cast Softmax.L_pos.le
  have hdot : ∀ j, ∃ x : ℝ, (∑ d : Fin 128, a0 (ix2 (row b (query g r)) (col 0 h d)) * a0 (ix2 (row b j) (col 1 h d)))
      * Cert.ReferenceIdeal.Value.S = x := fun j => by
    obtain ⟨x, hx⟩ := dot_real _ (fun d => a0 (ix2 (row b j) (col 1 h d))) fq fun d =>
      f0 _ _ (by show 1 * 1024 + (h.val * 128 + d.val) < 2048; omega)
    exact ⟨x * (Real.sqrt 128)⁻¹, by rw [hx, S_eq, EReal.coe_mul]⟩
  have hs : ∀ j, lat a0 a2 b h (query g r) j ≠ ⊤ := fun j => by
    obtain ⟨x, hx⟩ := hdot j
    unfold lat
    rw [hx]
    exact EReal.add_ne_top (EReal.coe_ne_top x) (bias_ne_top _ (fun i j => f2 h i j) _ _ _ _)
  have hx : ∀ l, ∃ x : ℝ, ctx a0 a1 b h (query g r) l = x := fun l => by
    obtain ⟨x, hx⟩ := dot_real _ (fun d => a1 (ix2 (rowC b l) (col 1 h d))) fq fun d =>
      f1 _ _ (by show 1024 ≤ 1 * 1024 + (h.val * 128 + d.val); omega) (by show 1 * 1024 + (h.val * 128 + d.val) < 2048; omega)
    exact ⟨x * (Real.sqrt 128)⁻¹, by unfold ctx; rw [hx, S_eq, EReal.coe_mul]⟩
  have hoff : ∀ j, (∀ t, key g t ≠ j) → lat a0 a2 b h (query g r) j = ⊥ := fun j hj => by
    unfold lat
    have hw : ¬ inWin 32 8 ((query g r).val / 64) (j.val / 64) = true := fun hw => by
      have e1 : (query g r).val / 64 = 4 * g.val + (⟨r.val / 64, by omega⟩ : Fin 4).val := by
        show (256 * g.val + r.val) / 64 = 4 * g.val + r.val / 64
        omega
      rw [e1] at hw
      obtain ⟨l1, l2⟩ := inWin_band g _ (⟨j.val / 64, by omega⟩ : Fin 32) hw
      have l1' : bandOf g ≤ j.val / 64 := l1
      have l2' : j.val / 64 < bandOf g + 12 := l2
      exact hj ⟨j.val - bandOf g * 64, by omega⟩ (Fin.ext (by show bandOf g * 64 + (j.val - bandOf g * 64) = j.val; omega))
    unfold bias
    rw [if_neg fun c => hw c.1]
    exact EReal.add_bot _
  rw [payH_at, Cert.ReferenceIdeal.Value.REF_at a0 a1 a2 b (query g r) h e n hn,
    ← Softmax.band_eq_full (0 : Fin 256) (key g) (key_inj g) _ _ _ _ hs hx hoff]
  refine band_congr (fun t => ?_) (fun l => ?_) (fun t => hv t e) (fun l => hvc l e)
  · show (∑ d : Fin 128, q (ix3 (0 : Fin 1) r d) * k (ix3 (0 : Fin 1) t d)) * scale2 + bb (ix5 (0 : Fin 1) (0 : Fin 1) (0 : Fin 1) r t)
      = lat a0 a2 b h (query g r) (key g t) * (Softmax.L : EReal)
    have e1 : (query g r).val / 64 = 4 * g.val + r.val / 64 := by
      show (256 * g.val + r.val) / 64 = _
      omega
    have e2 : (query g r).val % 64 = r.val % 64 := by
      show (256 * g.val + r.val) % 64 = _
      omega
    have e3 : (key g t).val / 64 = bandOf g + t.val / 64 := by
      show (bandOf g * 64 + t.val) / 64 = _
      omega
    have e4 : (key g t).val % 64 = t.val % 64 := by
      show (bandOf g * 64 + t.val) % 64 = _
      omega
    unfold lat
    rw [hb, bandBias_at, e1, e2, e3, e4, EReal.right_distrib_of_nonneg_of_ne_top hL (EReal.coe_ne_top _), ← scale2_eq]
    simp only [hq, hk]
  · show (∑ d : Fin 128, q (ix3 (0 : Fin 1) r d) * kc (ix3 (0 : Fin 1) l d)) * scale2 = ctx a0 a1 b h (query g r) l * (Softmax.L : EReal)
    unfold ctx
    rw [← scale2_eq]
    simp only [hq, hkc]

end Cert.KernelIdeal.Value

end
-- ==== Proof.Blocks.lean ====
/- What the grid point's blocks hold, read at an index of the arguments. -/
module

public import proofs.«01_k».proof.Proof.Head

@[expose] public section

set_option maxRecDepth 16384

noncomputable section

namespace Cert.KernelIdeal.Value

open Cert.KernelIdeal Cert.KernelIdeal.Gen Idealize.ShloMosaic Idealize.ShloMosaic.TcCoe Idealize.SL.Sem
open Cert.Window
open Cert.ReferenceIdeal.Value (row rowC col lat ctx)
open scoped BigOperators

variable (m : (ℓ : Loc nD τ sig) → Buf (Elt Ideal) ℓ) (c : Dev nD) (t : Fin cfg0.N)

theorem idx0 : ∀ t : Fin cfg0.N, win0_0.index t = ![t.val / 8, t.val % 8, 0] := by decide +kernel
theorem idx1 : ∀ t : Fin cfg0.N, win0_1.index t = ![t.val / 8, 0, 1] := by decide +kernel
theorem idx2 : ∀ t : Fin cfg0.N, win0_2.index t = ![t.val / 8, 0, 2] := by decide +kernel
theorem idx3 : ∀ t : Fin cfg0.N, win0_3.index t = ![t.val / 8, 0, 1] := by decide +kernel
theorem idx4 : ∀ t : Fin cfg0.N, win0_4.index t = ![t.val / 8, 0, 2] := by decide +kernel
theorem idx5 : ∀ t : Fin cfg0.N, win0_5.index t = ![0, 0, 0, 0, 0] := by decide +kernel
theorem idx6 : ∀ t : Fin cfg0.N, win0_6.index t = ![t.val / 8, t.val % 8, 0] := by decide +kernel

theorem lt32 (t : Fin cfg0.N) : t.val < 32 := lt_of_lt_of_eq t.isLt N_0

/-- Batch of a grid point. -/
def bOf (t : Fin cfg0.N) : Fin 4 := ⟨t.val / 8, by have := lt32 t; omega⟩
/-- Query group of a grid point. -/
def gOf (t : Fin cfg0.N) : Fin 8 := ⟨t.val % 8, by omega⟩

theorem qkv3_at (a : FVec Ideal S8192x3072 .bf16) (i : S4x2048x3072.Idx) (b : Fin 4) (r : Fin 2048) (o : Fin 3) (h : Fin 8) (d : Fin 128)
    (h0 : (i 0).val = b.val) (h1 : (i 1).val = r.val) (h2 : (i 2).val = o.val * 1024 + (h.val * 128 + d.val)) :
    qkv3 a i = a (ix2 (row b r) (col o h d)) := by
  pointwise [qkv3]
  blk_ext
  · show _ = b.val * 2048 + r.val
    omega
  · exact h2

theorem kvc3_at (a : FVec Ideal S1024x3072 .bf16) (i : S4x256x3072.Idx) (b : Fin 4) (r : Fin 256) (o : Fin 3) (h : Fin 8) (d : Fin 128)
    (h0 : (i 0).val = b.val) (h1 : (i 1).val = r.val) (h2 : (i 2).val = o.val * 1024 + (h.val * 128 + d.val)) :
    kvc3 a i = a (ix2 (rowC b r) (col o h d)) := by
  pointwise [kvc3]
  blk_ext
  · show _ = b.val * 256 + r.val
    omega
  · exact h2

theorem ld_q (h : Fin 8) (off) (hin) (e0 : off 0 = 0) (e1 : off 1 = 0) (e2 : off 2 = h.val * 128)
    (r : Fin 256) (d : Fin 128) :
    View.ld (iblk m c 0 t) (Rect.unit (s := S1x256x1024) off S1x256x128.size hin) (ix3 (0 : Fin 1) r d)
      = m ((c.tc : Thread nD τ).loc main_arg0) (ix2 (row (bOf t) (query (gOf t) r)) (col 0 h d)) := by
  rw [View.ld_apply]
  refine (congrFun (V_qkv m c) (((cfg0.win 0).blk t).view.emb ((Rect.unit (s := S1x256x1024) off S1x256x128.size hin).idx (ix3 (0 : Fin 1) r d)))).trans
    (qkv3_at _ _ (bOf t) (query (gOf t) r) 0 h d ?_ ?_ ?_)
  · blk_simp [idx0 t]
    rfl
  · blk_simp [idx0 t]
    rw [Rect.idx_unit_val, e1]
    show t.val % 8 * 256 + (0 + r.val) = 256 * (t.val % 8) + r.val
    omega
  · blk_simp [idx0 t]
    rw [Rect.idx_unit_val, e2]
    show h.val * 128 + d.val = 0 * 1024 + (h.val * 128 + d.val)
    omega

theorem ld_k (h : Fin 8) (off) (hin) (e : off = ![0, bandOf (gOf t) * 64, h.val * 128])
    (s : Fin 768) (d : Fin 128) :
    View.ld (iblk m c 1 t) (Rect.unit (s := S1x2048x1024) off S1x768x128.size hin) (ix3 (0 : Fin 1) s d)
      = m ((c.tc : Thread nD τ).loc main_arg0) (ix2 (row (bOf t) (key (gOf t) s)) (col 1 h d)) := by
  rw [View.ld_apply]
  refine (congrFun (V_qkv m c) (((cfg0.win 1).blk t).view.emb ((Rect.unit (s := S1x2048x1024) off S1x768x128.size hin).idx (ix3 (0 : Fin 1) s d)))).trans
    (qkv3_at _ _ (bOf t) (key (gOf t) s) 1 h d ?_ ?_ ?_)
  · blk_simp [idx1 t]
    rfl
  · blk_simp [idx1 t]
    rw [Rect.idx_unit_val, congrFun e 1]
    rfl
  · blk_simp [idx1 t]
    rw [Rect.idx_unit_val, congrFun e 2]
    rfl

theorem ld_v (h : Fin 8) (off) (hin) (e : off = ![0, bandOf (gOf t) * 64, h.val * 128])
    (s : Fin 768) (d : Fin 128) :
    View.ld (iblk m c 2 t) (Rect.unit (s := S1x2048x1024) off S1x768x128.size hin) (ix3 (0 : Fin 1) s d)
      = m ((c.tc : Thread nD τ).loc main_arg0) (ix2 (row (bOf t) (key (gOf t) s)) (col 2 h d)) := by
  rw [View.ld_apply]
  refine (congrFun (V_qkv m c) (((cfg0.win 2).blk t).view.emb ((Rect.unit (s := S1x2048x1024) off S1x768x128.size hin).idx (ix3 (0 : Fin 1) s d)))).trans
    (qkv3_at _ _ (bOf t) (key (gOf t) s) 2 h d ?_ ?_ ?_)
  · blk_simp [idx2 t]
    rfl
  · blk_simp [idx2 t]
    rw [Rect.idx_unit_val, congrFun e 1]
    rfl
  · blk_simp [idx2 t]
    rw [Rect.idx_unit_val, congrFun e 2]
    rfl

theorem ld_kc (h : Fin 8) (off) (hin) (e1 : off 1 = 0) (e2 : off 2 = h.val * 128)
    (l : Fin 256) (d : Fin 128) :
    View.ld (iblk m c 3 t) (Rect.unit (s := S1x256x1024) off S1x256x128.size hin) (ix3 (0 : Fin 1) l d)
      = m ((c.tc : Thread nD τ).loc main_arg1) (ix2 (rowC (bOf t) l) (col 1 h d)) := by
  rw [View.ld_apply]
  refine (congrFun (V_kvc m c) (((cfg0.win 3).blk t).view.emb ((Rect.unit (s := S1x256x1024) off S1x256x128.size hin).idx (ix3 (0 : Fin 1) l d)))).trans
    (kvc3_at _ _ (bOf t) l 1 h d ?_ ?_ ?_)
  · blk_simp [idx3 t]
    rfl
  · blk_simp [idx3 t]
    rw [Rect.idx_unit_val, e1]
    show 0 + l.val = l.val
    omega
  · blk_simp [idx3 t]
    rw [Rect.idx_unit_val, e2]
    rfl

theorem ld_vc (h : Fin 8) (off) (hin) (e1 : off 1 = 0) (e2 : off 2 = h.val * 128)
    (l : Fin 256) (d : Fin 128) :
    View.ld (iblk m c 4 t) (Rect.unit (s := S1x256x1024) off S1x256x128.size hin) (ix3 (0 : Fin 1) l d)
      = m ((c.tc : Thread nD τ).loc main_arg1) (ix2 (rowC (bOf t) l) (col 2 h d)) := by
  rw [View.ld_apply]
  refine (congrFun (V_kvc m c) (((cfg0.win 4).blk t).view.emb ((Rect.unit (s := S1x256x1024) off S1x256x128.size hin).idx (ix3 (0 : Fin 1) l d)))).trans
    (kvc3_at _ _ (bOf t) l 2 h d ?_ ?_ ?_)
  · blk_simp [idx4 t]
    rfl
  · blk_simp [idx4 t]
    rw [Rect.idx_unit_val, e1]
    show 0 + l.val = l.val
    omega
  · blk_simp [idx4 t]
    rw [Rect.idx_unit_val, e2]
    rfl

theorem off1 : ∀ t : Fin cfg0.N, k0_off1 (grid0.coords t) = ![0, bandOf (gOf t) * 64, 0] := by decide +kernel
theorem off2 : ∀ t : Fin cfg0.N, k0_off2 (grid0.coords t) = ![0, bandOf (gOf t) * 64, 128] := by decide +kernel
theorem off3 : ∀ t : Fin cfg0.N, k0_off3 (grid0.coords t) = ![0, bandOf (gOf t) * 64, 256] := by decide +kernel
theorem off4 : ∀ t : Fin cfg0.N, k0_off4 (grid0.coords t) = ![0, bandOf (gOf t) * 64, 384] := by decide +kernel
theorem off6 : ∀ t : Fin cfg0.N, k0_off6 (grid0.coords t) = ![0, bandOf (gOf t) * 64, 512] := by decide +kernel
theorem off8 : ∀ t : Fin cfg0.N, k0_off8 (grid0.coords t) = ![0, bandOf (gOf t) * 64, 640] := by decide +kernel
theorem off10 : ∀ t : Fin cfg0.N, k0_off10 (grid0.coords t) = ![0, bandOf (gOf t) * 64, 768] := by decide +kernel
theorem off12 : ∀ t : Fin cfg0.N, k0_off12 (grid0.coords t) = ![0, bandOf (gOf t) * 64, 896] := by decide +kernel
theorem off5 : ∀ t : Fin cfg0.N, k0_off5 (grid0.coords t) = ![0, (pat (gOf t)).val, 0, 0, 0] := by decide +kernel
theorem off7 : ∀ t : Fin cfg0.N, k0_off7 (grid0.coords t) = ![0, (pat (gOf t)).val, 1, 0, 0] := by decide +kernel
theorem off9 : ∀ t : Fin cfg0.N, k0_off9 (grid0.coords t) = ![0, (pat (gOf t)).val, 2, 0, 0] := by decide +kernel
theorem off11 : ∀ t : Fin cfg0.N, k0_off11 (grid0.coords t) = ![0, (pat (gOf t)).val, 3, 0, 0] := by decide +kernel
theorem off13 : ∀ t : Fin cfg0.N, k0_off13 (grid0.coords t) = ![0, (pat (gOf t)).val, 4, 0, 0] := by decide +kernel
theorem off14 : ∀ t : Fin cfg0.N, k0_off14 (grid0.coords t) = ![0, (pat (gOf t)).val, 5, 0, 0] := by decide +kernel
theorem off15 : ∀ t : Fin cfg0.N, k0_off15 (grid0.coords t) = ![0, (pat (gOf t)).val, 6, 0, 0] := by decide +kernel
theorem off16 : ∀ t : Fin cfg0.N, k0_off16 (grid0.coords t) = ![0, (pat (gOf t)).val, 7, 0, 0] := by decide +kernel

end Cert.KernelIdeal.Value

end
-- ==== Proof.BiasBlock.lean ====
/- The bias block read at an index of the bias table. -/
module

public import proofs.«01_k».proof.Proof.Blocks

@[expose] public section

set_option maxRecDepth 16384

noncomputable section

namespace Cert.KernelIdeal.Value

open Cert.KernelIdeal Cert.KernelIdeal.Gen Idealize.ShloMosaic Idealize.ShloMosaic.TcCoe Idealize.SL.Sem
open Cert.Window
open Cert.ReferenceIdeal.Value (row rowC col lat ctx)
open scoped BigOperators

variable (m : (ℓ : Loc nD τ sig) → Buf (Elt Ideal) ℓ) (c : Dev nD) (t : Fin cfg0.N)

theorem iblk5_at (i : Fin 3) (h : Fin 8) (r : Fin 256) (s : Fin 768) :
    iblk m c 5 t (ix5 (0 : Fin 1) i h r s) = bandBias (m ((c.tc : Thread nD τ).loc main_arg2)) (ix5 (0 : Fin 2) i h r s) := by
  have hi : ((cfg0.win 5).blk t).view.emb (ix5 (0 : Fin 1) i h r s) = ix5 (0 : Fin 2) i h r s := by
    blk_ext [idx5 t]
  exact (congrFun (V_bias m c) _).trans (congrArg (bandBias _) hi)

theorem ld_b (h : Fin 8) (off) (hin) (e : off = ![0, (pat (gOf t)).val, h.val, 0, 0])
    (r : Fin 256) (s : Fin 768) :
    View.ld (iblk m c 5 t) (Rect.unit (s := S1x3x8x256x768) off S1x1x1x256x768.size hin) (ix5 (0 : Fin 1) (0 : Fin 1) (0 : Fin 1) r s)
      = bandBias (m ((c.tc : Thread nD τ).loc main_arg2)) (ix5 (0 : Fin 2) (pat (gOf t)) h r s) := by
  refine (View.ld_unit_apply_of (iblk m c 5 t) off S1x1x1x256x768.size hin (ix5 (0 : Fin 1) (0 : Fin 1) (0 : Fin 1) r s)
    (ix5 (0 : Fin 1) (pat (gOf t)) h r s) fun a => ?_).trans (iblk5_at m c t (pat (gOf t)) h r s)
  rw [congrFun e a]
  match a with
  | ⟨0, _⟩ => rfl
  | ⟨1, _⟩ => rfl
  | ⟨2, _⟩ => rfl
  | ⟨3, _⟩ => exact (Nat.zero_add r.val).symm
  | ⟨4, _⟩ => exact (Nat.zero_add s.val).symm

end Cert.KernelIdeal.Value

end
-- ==== Proof.Point.lean ====
/- What a grid point writes: the plain definition's result at its batch and query group. -/
module

public import proofs.«01_k».proof.Proof.BiasBlock

@[expose] public section

set_option maxRecDepth 16384

noncomputable section

namespace Cert.KernelIdeal.Value

open Cert.KernelIdeal Cert.KernelIdeal.Gen Idealize.ShloMosaic Idealize.ShloMosaic.TcCoe Idealize.SL.Sem
open Cert.Window
open Cert.ReferenceIdeal.Value (row rowC col lat ctx)
open scoped BigOperators

variable (m : (ℓ : Loc nD τ sig) → Buf (Elt Ideal) ℓ) (c : Dev nD)

/-- The finiteness the precondition gives, of the arguments in memory. -/
structure FiniteAt : Prop where
  qkv : ∀ (r : Fin 8192) (n : Fin 3072), n.val < 2048 → ∃ x : ℝ, m ((c.tc : Thread nD τ).loc main_arg0) (ix2 r n) = (x : EReal)
  kvc : ∀ (r : Fin 1024) (n : Fin 3072), 1024 ≤ n.val → n.val < 2048 → ∃ x : ℝ, m ((c.tc : Thread nD τ).loc main_arg1) (ix2 r n) = (x : EReal)
  rpb : ∀ (i : Fin 8) (j : Fin 15) (k : Fin 31), m ((c.tc : Thread nD τ).loc main_arg2) (ix4 (0 : Fin 2) i j k) ≠ (⊤ : EReal)

/-- The plain definition's result on the kernel's arguments. -/
def want : FVec Ideal S4x2048x1024 .bf16 :=
  Cert.ReferenceIdeal.Value.REF (m ((c.tc : Thread nD τ).loc main_arg0)) (m ((c.tc : Thread nD τ).loc main_arg1))
    (m ((c.tc : Thread nD τ).loc main_arg2))

theorem piece (hf : FiniteAt m c) (t : Fin cfg0.N) (h : Fin 8) (oq : Fin 3 → Nat) (ok : Fin 3 → Nat) (ob : Fin 5 → Nat) (iq) (ik) (ib)
    (hq : oq = ![0, 0, h.val * 128]) (hk : ok = ![0, bandOf (gOf t) * 64, h.val * 128]) (hb : ob = ![0, (pat (gOf t)).val, h.val, 0, 0])
    (y : S1x256x1024.Idx) (x : S1x256x128.Idx) (h1 : (y 1).val = (x 1).val) (h2 : (y 2).val = h.val * 128 + (x 2).val) :
    payH (View.ld (iblk m c 0 t) (Rect.unit (s := S1x256x1024) oq ![1, 256, 128] iq))
        (View.ld (iblk m c 1 t) (Rect.unit (s := S1x2048x1024) ok ![1, 768, 128] ik))
        (View.ld (iblk m c 3 t) (Rect.unit (s := S1x256x1024) oq ![1, 256, 128] iq))
        (View.ld (iblk m c 5 t) (Rect.unit (s := S1x3x8x256x768) ob ![1, 1, 1, 256, 768] ib))
        (View.ld (iblk m c 2 t) (Rect.unit (s := S1x2048x1024) ok ![1, 768, 128] ik))
        (View.ld (iblk m c 4 t) (Rect.unit (s := S1x256x1024) oq ![1, 256, 128] iq)) x
      = want m c (ix3 (bOf t) (query (gOf t) (y 1)) (y 2)) := by
  have hx : x = ix3 (0 : Fin 1) (x 1) (x 2) := by blk_ext
  have hy : (y 1 : Fin 256) = x 1 := Fin.ext h1
  rw [hx, hy]
  exact head_eq _ _ _ hf.qkv hf.kvc hf.rpb (bOf t) (gOf t) h _ _ _ _ _ _
    (ld_q m c t h oq iq (congrFun hq 0) (congrFun hq 1) (congrFun hq 2)) (ld_k m c t h ok ik hk)
    (ld_kc m c t h oq iq (congrFun hq 1) (congrFun hq 2)) (ld_b m c t h ob ib hb) (ld_v m c t h ok ik hk)
    (ld_vc m c t h oq iq (congrFun hq 1) (congrFun hq 2)) (x 1) (x 2) (y 2) h2

theorem point (hf : FiniteAt m c) (t : Fin cfg0.N) (y : S1x256x1024.Idx) :
    outsAt0 m c t y = want m c (ix3 (bOf t) (query (gOf t) (y 1)) (y 2)) := by
  unfold outsAt0 out0_A_6
  frame_out
  canon_tiles x h
  case piece0 =>
    exact piece m c hf t 7 ![0, 0, 896] (k0_off12 (grid0.coords t)) (k0_off16 (grid0.coords t)) inb_S1x256x1024_S1x256x128_0_0_896
      (k0_off12_inb (grid0.coords t)) (k0_off16_inb (grid0.coords t)) rfl (off12 t) (off16 t) y x h1 (by omega)
  case piece1 =>
    exact piece m c hf t 6 ![0, 0, 768] (k0_off10 (grid0.coords t)) (k0_off15 (grid0.coords t)) inb_S1x256x1024_S1x256x128_0_0_768
      (k0_off10_inb (grid0.coords t)) (k0_off15_inb (grid0.coords t)) rfl (off10 t) (off15 t) y x h1 (by omega)
  case piece2 =>
    exact piece m c hf t 5 ![0, 0, 640] (k0_off8 (grid0.coords t)) (k0_off14 (grid0.coords t)) inb_S1x256x1024_S1x256x128_0_0_640
      (k0_off8_inb (grid0.coords t)) (k0_off14_inb (grid0.coords t)) rfl (off8 t) (off14 t) y x h1 (by omega)
  case piece3 =>
    exact piece m c hf t 4 ![0, 0, 512] (k0_off6 (grid0.coords t)) (k0_off13 (grid0.coords t)) inb_S1x256x1024_S1x256x128_0_0_512
      (k0_off6_inb (grid0.coords t)) (k0_off13_inb (grid0.coords t)) rfl (off6 t) (off13 t) y x h1 (by omega)
  case piece4 =>
    exact piece m c hf t 3 ![0, 0, 384] (k0_off4 (grid0.coords t)) (k0_off11 (grid0.coords t)) inb_S1x256x1024_S1x256x128_0_0_384
      (k0_off4_inb (grid0.coords t)) (k0_off11_inb (grid0.coords t)) rfl (off4 t) (off11 t) y x h1 (by omega)
  case piece5 =>
    exact piece m c hf t 2 ![0, 0, 256] (k0_off3 (grid0.coords t)) (k0_off9 (grid0.coords t)) inb_S1x256x1024_S1x256x128_0_0_256
      (k0_off3_inb (grid0.coords t)) (k0_off9_inb (grid0.coords t)) rfl (off3 t) (off9 t) y x h1 (by omega)
  case piece6 =>
    exact piece m c hf t 1 ![0, 0, 128] (k0_off2 (grid0.coords t)) (k0_off7 (grid0.coords t)) inb_S1x256x1024_S1x256x128_0_0_128
      (k0_off2_inb (grid0.coords t)) (k0_off7_inb (grid0.coords t)) rfl (off2 t) (off7 t) y x h1 (by omega)
  case piece7 =>
    exact piece m c hf t 0 ![0, 0, 0] (k0_off1 (grid0.coords t)) (k0_off5 (grid0.coords t)) inb_S1x256x1024_S1x256x128_0_0_0
      (k0_off1_inb (grid0.coords t)) (k0_off5_inb (grid0.coords t)) rfl (off1 t) (off5 t) y x h1 (by omega)

end Cert.KernelIdeal.Value

end
-- ==== Proof.Project.lean ====
/- The projection's columns for the chunked MLP and the merge gates: what the kernel's blocks hold, and the equation
   with the plain product. -/
module

public import proofs.«01_k».proof.Proof.Gen.ProjectionIdeal.Value
public import proofs.«01_k».proof.Proof.Gen.ProjectionReferenceIdeal.Run
public import Idealize.ShloMosaic.Lib.Pipeline.ValueKit
public import Idealize.ShloMosaic.Lib.Pointwise
public import Idealize.ShloMosaic.Lib.Tactic
public import Idealize.ShloMosaic.Lib.Claim

@[expose] public section

set_option maxRecDepth 16384

noncomputable section

namespace Cert.ProjectionReferenceIdeal.Value

open Cert.ProjectionReferenceIdeal Cert.ProjectionReferenceIdeal.Gen Idealize.ShloMosaic Idealize.ShloMosaic.TcCoe Idealize.SL.Sem
open scoped BigOperators

/-- The plain projection's result. -/
def REF (h : FVec Ideal S8192x2048 .bf16) (w : FVec Ideal S2x2048x14336 .f32) : FVec Ideal S8192x8192 .f32 :=
  extractStridedSlice S8192x8192 ![0, 6144] (Host.dotGeneral dot_S8192x2048_S2048x14336_S8192x14336_1_0_0_1_n_n none (extf .f32 h bitsLt_bf16_f32) (shapeCast _ (extractStridedSlice S1x2048x14336 ![0, 0, 0] w slices_S2x2048x14336_S1x2048x14336_0_0_0) shapeCasts_S1x2048x14336_S2048x14336)) slices_S8192x14336_S8192x8192_0_6144

/-- … at an index: a row of the activations with a column of the first layer's weights. -/
theorem REF_at (h : FVec Ideal S8192x2048 .bf16) (w : FVec Ideal S2x2048x14336 .f32) (y : S8192x8192.Idx) :
    REF h w y = ∑ k : Fin 2048, h (ix2 (y 0) k) * w (ix3 (0 : Fin 2) k (⟨6144 + (y 1).val, by have : (y 1).val < 8192 := (y 1).isLt; omega⟩ : Fin 14336)) := by
  pointwise [REF]

end Cert.ProjectionReferenceIdeal.Value

namespace Cert.ProjectionIdeal.Value

open Cert.ProjectionIdeal Cert.ProjectionIdeal.Gen Idealize.ShloMosaic Idealize.ShloMosaic.TcCoe Idealize.SL.Sem
open scoped BigOperators

theorem zero2 : (![0, 0] : Fin 2 → Nat) = fun _ => 0 := funext fun a => by fin_cases a <;> rfl
theorem zero3 : (![0, 0, 0] : Fin 3 → Nat) = fun _ => 0 := funext fun a => by fin_cases a <;> rfl

section body

variable {F : FTy → Type} [FloatOps F]
variable (c : Dev nD) (i : grid0.Coords) (a2 : Memref sig .tc .vmem S1024x2048 .bf16) (h2 : a2.IsWhole)
  (a3 : Memref sig .tc .vmem S1x2048x1024 .f32) (h3 : a3.IsWhole) (a4 : Memref sig .tc .vmem S1024x1024 .f32) (h4 : a4.IsWhole)
  (a5 : Memref sig .tc .vmem S2048x1024 .bf16) (h5 : a5.IsWhole)
  (x : Vec F S1024x2048 .bf16) (w : Vec F S1x2048x1024 .f32)

/-- At a column block's first step the scratch is left holding the cast weights. -/
theorem scratch_A (hc : cond0_0 i) : sout0_A_0 c i a2 h2 a3 h3 a4 h4 a5 h5 hc x w = k0_pay1 w := by
  unfold sout0_A_0
  rw [View.read_writes_eq_canon _ _ _ (scover0_A_0 c i a2 h2 a3 h3 a4 h4 a5 h5 hc x w)]
  unfold kernelRun0_A
  dsimp only
  sl_unfold_words
  rw [View.canon_cons_unit_zero (S := S2048x1024) zero2]
  simp only [View.readAt_eq_ld, h3.read_unread, View.ld_unit_zero (S := S1x2048x1024) zero3]

/-- At that step the product is with these weights. -/
theorem out_A (hc : cond0_0 i) : out0_A_2 c i a2 h2 a3 h3 a4 h4 a5 h5 hc x w = k0_pay2 x (k0_pay1 w) := by
  unfold out0_A_2
  rw [View.read_writes_eq_canon _ _ _ (cover0_A_2 c i a2 h2 a3 h3 a4 h4 a5 h5 hc x w)]
  unfold kernelRun0_A
  dsimp only
  sl_unfold_words
  rw [View.canon_cons_unit_zero (S := S1024x1024) zero2, View.readCov_unit_zero (S := S2048x1024) _ zero2]
  simp only [View.readAt_eq_ld, h2.read_unread, h3.read_unread, View.ld_unit_zero (S := S1x2048x1024) zero3,
    View.ld_unit_zero (S := S1024x2048) zero2]

/-- At the other steps the product is with the weights that the scratch holds. -/
theorem out_B (hc : ¬cond0_0 i) (s : Vec F S2048x1024 .bf16) :
    out0_B_2 c i a2 h2 a3 h3 a4 h4 a5 h5 hc x w s = k0_pay2 x s := by
  unfold out0_B_2
  rw [View.read_writes_eq_canon _ _ _ (cover0_B_2 c i a2 h2 a3 h3 a4 h4 a5 h5 hc x w s)]
  unfold kernelRun0_B
  dsimp only
  rw [View.canon_cons_unit_zero (S := S1024x1024) zero2]
  simp only [View.readAt_eq_ld, h2.read_unread, h5.read_unread, View.ld_unit_zero (S := S2048x1024) zero2,
    View.ld_unit_zero (S := S1024x2048) zero2]

end body

theorem idx0 : ∀ t : Fin cfg0.N, win0_0.index t = ![t.val % 8, 0] := by decide +kernel
theorem idx1 : ∀ t : Fin cfg0.N, win0_1.index t = ![0, 0, 6 + t.val / 8] := by decide +kernel
theorem idx2 : ∀ t : Fin cfg0.N, win0_2.index t = ![t.val % 8, t.val / 8] := by decide +kernel

section sweep

variable {F : FTy → Type} [FloatOps F]
variable (m : (ℓ : Loc nD τ sig) → Buf (Elt F) ℓ) (c : Dev nD)

/-- The weights' block is the same at all steps of a column block. -/
theorem weights_same (t t' : Fin cfg0.N) (h : t.val / 8 = t'.val / 8) : iblk m c 1 t = iblk m c 1 t' := by
  funext y
  show m _ _ = m _ _
  congr 1
  blk_ext [idx1 t, idx1 t']
  all_goals omega

/-- What output block and scratch hold after a step. -/
theorem outs (n : ℕ) : ∀ (h : n < cfg0.N),
    outsAt0 m c n h = (k0_pay2 (iblk m c 0 ⟨n, h⟩) (k0_pay1 (iblk m c 1 ⟨n, h⟩)), k0_pay1 (iblk m c 1 ⟨n, h⟩)) := by
  induction n with
  | zero =>
    intro h
    rw [show outsAt0 m c 0 h = _ from outsAt0_A m c ⟨0, h⟩ (Nat.zero_mod _), out_A, scratch_A]
  | succ n ih =>
    intro h
    by_cases h0 : (n + 1) % 8 = 0
    · rw [show outsAt0 m c (n + 1) h = _ from outsAt0_A m c ⟨n + 1, h⟩ h0, out_A, scratch_A]
    · have e : iblk m c 1 ⟨n, Nat.lt_of_succ_lt h⟩ = iblk m c 1 ⟨n + 1, h⟩ :=
        weights_same m c _ _ (by show n / 8 = (n + 1) / 8; omega)
      have ih' : (outsAt0 m c n (Nat.lt_of_succ_lt h)).2 = k0_pay1 (iblk m c 1 ⟨n + 1, h⟩) := by
        rw [ih (Nat.lt_of_succ_lt h), e]
      rw [show outsAt0 m c (n + 1) h = _ from outsAt0_B m c ⟨n + 1, h⟩ h0, out_B]
      unfold sout0_B_0
      exact Prod.ext (congrArg (k0_pay2 _) ih') ih'

end sweep

variable (m : (ℓ : Loc nD τ sig) → Buf (Elt Ideal) ℓ) (c : Dev nD)

/-- A step's product at an index. -/
theorem pay_at (x : Vec Ideal S1024x2048 .bf16) (w : Vec Ideal S1x2048x1024 .f32) (y : S1024x1024.Idx) :
    k0_pay2 x (k0_pay1 w) y = ∑ k : Fin 2048, x (ix2 (y 0) k) * w (ix3 (0 : Fin 1) k (y 1)) := by
  pointwise [k0_pay2, k0_pay1]

theorem lt64 (t : Fin cfg0.N) : t.val < 64 := lt_of_lt_of_eq t.isLt N_0

/-- The output array after the run is the plain projection. -/
theorem final : (dats m 0 c).arrAt 2 (cfgs 0).N
    = Cert.ProjectionReferenceIdeal.Value.REF (m ((c.tc : Thread nD τ).loc main_arg0)) (m ((c.tc : Thread nD τ).loc main_arg1)) := by
  refine (dats m 0 c).arrAt_eq_of_covers 2 _ (by decide +kernel) fun t _ y => ?_
  blk_simp
  have ht := lt64 t
  rw [after0_2, outs]
  refine (pay_at _ _ y).trans ?_
  rw [Cert.ProjectionReferenceIdeal.Value.REF_at]
  refine Finset.sum_congr rfl fun k _ => congrArg₂ (· * ·) (congrArg (m _) ?_) (congrArg (m _) ?_)
  · blk_ext [idx0 t, idx2 t]
    all_goals omega
  · blk_ext [idx1 t, idx2 t]
    all_goals omega

end Cert.ProjectionIdeal.Value

end
-- ==== Proof.ExpertsIdealRuns.lean ====
/- The experts' feed-forward: its body's run in each of its three cases, for any number formats. A point of the grid is an
   expert and a step: at step 0 the packed words are decoded into a row buffer and the first activation slice is stored;
   at steps 1, 2, 3 the others are; at steps 4 to 7 an output block is computed from the four slices. -/
module

public import proofs.«01_k».proof.Proof.Gen.ExpertsIdeal.Launch
public import proofs.«01_k».proof.Proof.Gen.ExpertsIdeal.Skeleton
public import proofs.«01_k».proof.Proof.Gen.ExpertsIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.ExpertsIdeal.Own

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first condition: the step is 0. -/
abbrev cond1 (i : grid0.Coords) : Prop := (Scalar.cmpi .ne (Scalar.extui (Scalar.cmpi .eq (BitVec.ofNat 32 (i 1).val) 0#32)) 0#32) = 1#1

theorem coord1 (t : Fin cfg0.N) : (grid0.coords t 1).val = t.val % 8 :=
  (Pipeline.Grid.coords_val t 1 (by decide) rfl : (grid0.coords t 1).val = t.val / 1 % 8).trans (by rw [Nat.div_one])

theorem hcond1 (t : Fin cfg0.N) : cond1 (grid0.coords t) ↔ t.val % 8 = 0 := by
  have ht : t.val < 128 := Nat.lt_of_lt_of_eq t.isLt N_0
  simp only [cond1, coord1]
  word_cmp

theorem hcond2 (t : Fin cfg0.N) : k0_cond2 (grid0.coords t) = 1#1 ↔ t.val % 8 < 4 := by
  have ht : t.val < 128 := Nat.lt_of_lt_of_eq t.isLt N_0
  simp only [k0_cond2, coord1]
  word_cmp

theorem hcond3 (t : Fin cfg0.N) : k0_cond3 (grid0.coords t) = 1#1 ↔ 4 ≤ t.val % 8 := by
  have ht : t.val < 128 := Nat.lt_of_lt_of_eq t.isLt N_0
  simp only [k0_cond3, coord1]
  word_cmp

variable (c : Dev nD) (i : grid0.Coords) (arg2 : Memref sig .tc .vmem S1x1024x1024 .i32) (harg2 : arg2.IsWhole)
  (arg3 : Memref sig .tc .vmem S1x1024x128 .f32) (harg3 : arg3.IsWhole)
  (arg4 : Memref sig .tc .vmem S1x1x2048x512 .f32) (harg4 : arg4.IsWhole)
  (arg5 : Memref sig .tc .vmem S1x1x2048x512 .f32) (harg5 : arg5.IsWhole)
  (arg6 : Memref sig .tc .vmem S1x1x2048x512 .f32) (harg6 : arg6.IsWhole)
  (arg7 : Memref sig .tc .vmem S1x1024x512 .bf16) (harg7 : arg7.IsWhole)
  (arg8 : Memref sig .tc .vmem S4x1024x512 .bf16) (harg8 : arg8.IsWhole)
  (arg9 : Memref sig .tc .vmem S1024x2048 .bf16) (harg9 : arg9.IsWhole)

set_option maxHeartbeats 1000000 in
/-- Step 0: what is stored into the slices' buffer and into the row buffer, and the run that stores it. -/
noncomputable def runA (h1 : cond1 i) (h2 : k0_cond2 i = 1#1) (h3 : ¬k0_cond3 i = 1#1)
    (x0 : Vec F S1x1024x1024 .i32) (x1 : Vec F S1x1024x128 .f32) (x2 x3 x4 : Vec F S1x1x2048x512 .f32)
    (d : Vec F S1x1024x512 .bf16) (a : Vec F S4x1024x512 .bf16) (r : Vec F S1024x2048 .bf16) :
    Σ' (LA : List (View.Piece (Elt F) S4x1024x512 .bf16)), { LR : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d ∗ owns (c : Thread nD τ) arg8 fullShare a ∗ owns (c : Thread nD τ) arg9 fullShare r
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d
                ∗ (arg8.view.loc (c : Thread nD τ) ↦[arg8.view.set]{fullShare} arg8.view.writes (Elt F) (harg8.unread a) LA) ∗ (arg9.view.loc (c : Thread nD τ) ↦[arg9.view.set]{fullShare} arg9.view.writes (Elt F) (harg9.unread r) LR)) -∗ K ⟨⟩))
          ⊢ wp frame (wpE (defs₀ (F := F)) Variants.none c none) E (cc0_expert_ffn i arg2 harg2 arg3 harg3 arg4 harg4 arg5 harg5 arg6 harg6 arg7 harg7 arg8 harg8 arg9 harg9) K } := by
  refine ⟨?_, ?_, fun E K => ?run⟩
  case run =>
    simp only [cc0_expert_ffn_eq_skeleton]; unfold cc0_expert_ffn_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    sl_exec (disch := first | sl_exact h1 | sl_exact h2 | sl_exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexact H6
    iexact H7

set_option maxHeartbeats 1000000 in
/-- Steps 1, 2, 3: what is stored into the slices' buffer, and the run that stores it. -/
noncomputable def runB (h1 : ¬cond1 i) (h2 : k0_cond2 i = 1#1) (h3 : ¬k0_cond3 i = 1#1)
    (x0 : Vec F S1x1024x1024 .i32) (x1 : Vec F S1x1024x128 .f32) (x2 x3 x4 : Vec F S1x1x2048x512 .f32)
    (d : Vec F S1x1024x512 .bf16) (a : Vec F S4x1024x512 .bf16) (r : Vec F S1024x2048 .bf16) :
    { LA : List (View.Piece (Elt F) S4x1024x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d ∗ owns (c : Thread nD τ) arg8 fullShare a ∗ owns (c : Thread nD τ) arg9 fullShare r
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d
                ∗ (arg8.view.loc (c : Thread nD τ) ↦[arg8.view.set]{fullShare} arg8.view.writes (Elt F) (harg8.unread a) LA) ∗ owns (c : Thread nD τ) arg9 fullShare r) -∗ K ⟨⟩))
          ⊢ wp frame (wpE (defs₀ (F := F)) Variants.none c none) E (cc0_expert_ffn i arg2 harg2 arg3 harg3 arg4 harg4 arg5 harg5 arg6 harg6 arg7 harg7 arg8 harg8 arg9 harg9) K } := by
  refine ⟨?_, fun E K => ?run⟩
  case run =>
    simp only [cc0_expert_ffn_eq_skeleton]; unfold cc0_expert_ffn_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    sl_exec (disch := first | sl_exact h1 | sl_exact h2 | sl_exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexact H6
    iexists _; isplitr; · ipureintro; exact harg9.read_unread _
    iexact H7

set_option maxHeartbeats 1000000 in
/-- Steps 4 to 7: what is stored into the output block, and the run that stores it. -/
noncomputable def runC (h1 : ¬cond1 i) (h2 : ¬k0_cond2 i = 1#1) (h3 : k0_cond3 i = 1#1)
    (x0 : Vec F S1x1024x1024 .i32) (x1 : Vec F S1x1024x128 .f32) (x2 x3 x4 : Vec F S1x1x2048x512 .f32)
    (d : Vec F S1x1024x512 .bf16) (a : Vec F S4x1024x512 .bf16) (r : Vec F S1024x2048 .bf16) :
    { LO : List (View.Piece (Elt F) S1x1024x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d ∗ owns (c : Thread nD τ) arg8 fullShare a ∗ owns (c : Thread nD τ) arg9 fullShare r
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (arg7.view.loc (c : Thread nD τ) ↦[arg7.view.set]{fullShare} arg7.view.writes (Elt F) (harg7.unread d) LO) ∗ owns (c : Thread nD τ) arg8 fullShare a ∗ owns (c : Thread nD τ) arg9 fullShare r) -∗ K ⟨⟩))
          ⊢ wp frame (wpE (defs₀ (F := F)) Variants.none c none) E (cc0_expert_ffn i arg2 harg2 arg3 harg3 arg4 harg4 arg5 harg5 arg6 harg6 arg7 harg7 arg8 harg8 arg9 harg9) K } := by
  refine ⟨?_, fun E K => ?run⟩
  case run =>
    simp only [cc0_expert_ffn_eq_skeleton]; unfold cc0_expert_ffn_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    sl_exec (disch := first | sl_exact h1 | sl_exact h2 | sl_exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexact H5
    isplitl [H6]
    · iexists _; isplitr; · ipureintro; exact harg8.read_unread _
      iexact H6
    iexists _; isplitr; · ipureintro; exact harg9.read_unread _
    iexact H7

end Cert.ExpertsIdeal.Own

end
-- ==== Proof.ExpertsIdealFrame.lean ====
/- The experts' feed-forward: what its buffers hold point by point, its run, and its frame, for any number formats. The
   invariant between points says of the two scratch buffers only what later points read: the row buffer holds the decoded
   words of the point's expert, and the slices stored so far hold their activations. -/
module

public import proofs.«01_k».proof.Proof.ExpertsIdealRuns
public import Idealize.ShloMosaic.Lib.Claim
public import Idealize.ShloMosaic.Lib.Pipeline.ValueKit

@[expose] public section

set_option maxRecDepth 16384

noncomputable section

namespace Cert.ExpertsIdeal.Own

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zero2 : (![0, 0] : Fin 2 → Nat) = fun _ => 0 := funext fun a => by fin_cases a <;> rfl
theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-! ## What the stores leave -/

/-- The words' decoded row: the low halves, then the high halves. -/
def rowOf (w : Vec F S1x1024x1024 .i32) : Vec F S1024x2048 .bf16 :=
  View.canon (Val := Elt F) (s := S1024x2048) (e := .bf16)
    [⟨Rect.unit (s := S1024x2048) ![0, 1024] S1024x1024.size inb_S1024x2048_S1024x1024_0_1024, k0_pay3 w⟩,
     ⟨Rect.unit (s := S1024x2048) ![0, 0] S1024x1024.size inb_S1024x2048_S1024x1024_0_0, k0_pay2 w⟩]

theorem slice_inb (j : ℕ) (hj : j < 4) : ∀ a, (![j, 0, 0] : Fin 3 → ℕ) a + S1x1024x512.size a ≤ S4x1024x512.size a := by
  intro a
  fin_cases a
  · show j + 1 ≤ 4; omega
  · exact le_rfl
  · exact le_rfl

/-- Slice `j` of the activations' buffer. -/
abbrev slice (j : ℕ) (hj : j < 4) : Rect S4x1024x512 := Rect.unit (s := S4x1024x512) ![j, 0, 0] S1x1024x512.size (slice_inb j hj)

theorem off1 (t : Fin cfg0.N) (h : t.val % 8 < 4) : k0_off1 (grid0.coords t) = ![t.val % 8, 0, 0] := by
  unfold k0_off1
  simp only [coord1]
  generalize t.val % 8 = s at h ⊢
  interval_cases s <;> rfl

/-- A slice's store is read back through it, and leaves the other slices as they were. -/
theorem read_slice_hit {m : Memref sig .tc .vmem S4x1024x512 .bf16} (hm : m.IsWhole) (a : Vec F S4x1024x512 .bf16)
    (off : Fin 3 → ℕ) (inb) (s : ℕ) (hs : s < 4) (e : off = ![s, 0, 0]) (p : Vec F S1x1024x512 .bf16) :
    View.ld (m.view.read (Elt F) (m.view.writes (Elt F) (hm.unread a) [⟨Rect.unit (s := S4x1024x512) off S1x1024x512.size inb, p⟩])) (slice s hs) = p := by
  subst e
  funext y
  exact View.read_writes_cons_emb m.view _ (Rect.unit (s := S4x1024x512) ![s, 0, 0] S1x1024x512.size inb) p [] y

theorem read_slice_miss {m : Memref sig .tc .vmem S4x1024x512 .bf16} (hm : m.IsWhole) (a : Vec F S4x1024x512 .bf16)
    (off : Fin 3 → ℕ) (inb) (s : ℕ) (e : off = ![s, 0, 0]) (p : Vec F S1x1024x512 .bf16) (j : ℕ) (hj : j < 4) (hne : j ≠ s) :
    View.ld (m.view.read (Elt F) (m.view.writes (Elt F) (hm.unread a) [⟨Rect.unit (s := S4x1024x512) off S1x1024x512.size inb, p⟩])) (slice j hj)
      = View.ld a (slice j hj) := by
  subst e
  funext y
  refine (View.read_writes_apply_of_forall_not_mem m.view (hm.unread a) ((slice j hj).idx y) _ fun q hq => ?_).trans
    (congrFun (hm.read_unread a) _)
  rw [List.mem_singleton] at hq
  subst hq
  intro hmem
  have h0 := (Rect.mem_set_unit (s := S4x1024x512) (off := ![s, 0, 0]) (size := S1x1024x512.size) (inb := inb)).mp hmem 0
  have e0 : ((slice j hj).idx y 0).val = j + 1 * (y 0).val := rfl
  have y0 : (y 0).val < 1 := (y 0).isLt
  rw [e0] at h0
  have h1 : s ≤ j + 1 * (y 0).val := h0.1
  have h2 : j + 1 * (y 0).val < s + 1 := h0.2
  omega

/-- A load of the whole row buffer after stores reads what they leave. -/
theorem readCov_row (v : View sig .tc .vmem S1024x2048 .bf16) (L : List (View.Piece (Elt F) S1024x2048 .bf16)) (inb) :
    v.readCov L (Rect.unit (s := S1024x2048) ![0, 0] S1024x2048.size inb).toLoadRect = View.canon L := by
  rw [View.readCov_eq_canon']
  exact View.ld_unit_zero (S := S1024x2048) zero2 inb (View.canon L)

section body

variable (c : Dev nD) (i : grid0.Coords) (arg2 : Memref sig .tc .vmem S1x1024x1024 .i32) (harg2 : arg2.IsWhole)
  (arg3 : Memref sig .tc .vmem S1x1024x128 .f32) (harg3 : arg3.IsWhole)
  (arg4 : Memref sig .tc .vmem S1x1x2048x512 .f32) (harg4 : arg4.IsWhole)
  (arg5 : Memref sig .tc .vmem S1x1x2048x512 .f32) (harg5 : arg5.IsWhole)
  (arg6 : Memref sig .tc .vmem S1x1x2048x512 .f32) (harg6 : arg6.IsWhole)
  (arg7 : Memref sig .tc .vmem S1x1024x512 .bf16) (harg7 : arg7.IsWhole)
  (arg8 : Memref sig .tc .vmem S4x1024x512 .bf16) (harg8 : arg8.IsWhole)
  (arg9 : Memref sig .tc .vmem S1024x2048 .bf16) (harg9 : arg9.IsWhole)
  (x0 : Vec F S1x1024x1024 .i32) (x1 : Vec F S1x1024x128 .f32) (x2 x3 x4 : Vec F S1x1x2048x512 .f32)
  (d : Vec F S1x1024x512 .bf16) (a : Vec F S4x1024x512 .bf16) (r : Vec F S1024x2048 .bf16)

theorem coverA (h1 : cond1 i) (h2 : k0_cond2 i = 1#1) (h3 : ¬k0_cond3 i = 1#1) (y : S1024x2048.Idx) :
    ∃ pc ∈ (runA c i arg2 harg2 arg3 harg3 arg4 harg4 arg5 harg5 arg6 harg6 arg7 harg7 arg8 harg8 arg9 harg9 h1 h2 h3 x0 x1 x2 x3 x4 d a r).2.1, y ∈ pc.1.set :=
  View.cover_of_tiledL (runA c i arg2 harg2 arg3 harg3 arg4 harg4 arg5 harg5 arg6 harg6 arg7 harg7 arg8 harg8 arg9 harg9 h1 h2 h3 x0 x1 x2 x3 x4 d a r).2.1 S1024x1024.size (by sl_kernel_rfl) y

/-- Step 0 leaves the decoded words in the row buffer, -/
theorem rowA (h1 : cond1 i) (h2 : k0_cond2 i = 1#1) (h3 : ¬k0_cond3 i = 1#1) :
    arg9.view.read (Elt F) (arg9.view.writes (Elt F) (harg9.unread r) (runA c i arg2 harg2 arg3 harg3 arg4 harg4 arg5 harg5 arg6 harg6 arg7 harg7 arg8 harg8 arg9 harg9 h1 h2 h3 x0 x1 x2 x3 x4 d a r).2.1) = rowOf x0 := by
  rw [View.read_writes_eq_canon _ _ _ (coverA c i arg2 harg2 arg3 harg3 arg4 harg4 arg5 harg5 arg6 harg6 arg7 harg7 arg8 harg8 arg9 harg9 x0 x1 x2 x3 x4 d a r h1 h2 h3)]
  unfold runA
  dsimp only
  sl_unfold_words
  simp only [View.readAt_eq_ld, harg2.read_unread, View.ld_unit_zero (S := S1x1024x1024) zero3]
  rfl

/-- and the first slice, of that row, in the slices' buffer; -/
theorem slicesA (h1 : cond1 i) (h2 : k0_cond2 i = 1#1) (h3 : ¬k0_cond3 i = 1#1) :
    (runA c i arg2 harg2 arg3 harg3 arg4 harg4 arg5 harg5 arg6 harg6 arg7 harg7 arg8 harg8 arg9 harg9 h1 h2 h3 x0 x1 x2 x3 x4 d a r).1
      = [⟨Rect.unit (s := S4x1024x512) (k0_off1 i) S1x1024x512.size (k0_off1_inb i h2), k0_pay4 x2 x3 (rowOf x0)⟩] := by
  unfold runA
  dsimp only
  sl_unfold_words
  simp only [View.readAt_eq_ld, harg2.read_unread, harg4.read_unread, harg5.read_unread, View.ld_unit_zero (S := S1x1024x1024) zero3,
    View.ld_unit_zero (S := S1x1x2048x512) zero4]
  refine congrArg (fun q => [(⟨Rect.unit (s := S4x1024x512) (k0_off1 i) S1x1024x512.size (k0_off1_inb i h2), k0_pay4 x2 x3 q⟩ : View.Piece (Elt F) S4x1024x512 .bf16)]) ?_
  exact readCov_row arg9.view _ _

/-- steps 1, 2, 3 their slice, of the row that the row buffer holds; -/
theorem slicesB (h1 : ¬cond1 i) (h2 : k0_cond2 i = 1#1) (h3 : ¬k0_cond3 i = 1#1) :
    (runB c i arg2 harg2 arg3 harg3 arg4 harg4 arg5 harg5 arg6 harg6 arg7 harg7 arg8 harg8 arg9 harg9 h1 h2 h3 x0 x1 x2 x3 x4 d a r).1
      = [⟨Rect.unit (s := S4x1024x512) (k0_off1 i) S1x1024x512.size (k0_off1_inb i h2), k0_pay4 x2 x3 r⟩] := by
  unfold runB
  dsimp only
  try sl_unfold_words
  simp only [View.readAt_eq_ld, harg9.read_unread, harg4.read_unread, harg5.read_unread, View.ld_unit_zero (S := S1024x2048) zero2,
    View.ld_unit_zero (S := S1x1x2048x512) zero4]

/-- The gates' first column. -/
abbrev gateRect : Rect S1x1024x128 := Rect.unit (s := S1x1024x128) ![0, 0, 0] S1x1024x1.size inb_S1x1024x128_S1x1024x1_0_0_0

theorem coverC (h1 : ¬cond1 i) (h2 : ¬k0_cond2 i = 1#1) (h3 : k0_cond3 i = 1#1) (y : S1x1024x512.Idx) :
    ∃ pc ∈ (runC c i arg2 harg2 arg3 harg3 arg4 harg4 arg5 harg5 arg6 harg6 arg7 harg7 arg8 harg8 arg9 harg9 h1 h2 h3 x0 x1 x2 x3 x4 d a r).1, y ∈ pc.1.set :=
  View.cover_of_tiledL (runC c i arg2 harg2 arg3 harg3 arg4 harg4 arg5 harg5 arg6 harg6 arg7 harg7 arg8 harg8 arg9 harg9 h1 h2 h3 x0 x1 x2 x3 x4 d a r).1 S1x1024x512.size (by sl_kernel_rfl) y

/-- and steps 4 to 7 the output block, of the four slices. -/
theorem outC (h1 : ¬cond1 i) (h2 : ¬k0_cond2 i = 1#1) (h3 : k0_cond3 i = 1#1) :
    arg7.view.read (Elt F) (arg7.view.writes (Elt F) (harg7.unread d) (runC c i arg2 harg2 arg3 harg3 arg4 harg4 arg5 harg5 arg6 harg6 arg7 harg7 arg8 harg8 arg9 harg9 h1 h2 h3 x0 x1 x2 x3 x4 d a r).1)
      = k0_pay5 x4 (View.ld a (slice 0 (by decide))) (View.ld a (slice 1 (by decide))) (View.ld a (slice 2 (by decide))) (View.ld a (slice 3 (by decide))) (View.ld x1 gateRect) := by
  rw [View.read_writes_eq_canon _ _ _ (coverC c i arg2 harg2 arg3 harg3 arg4 harg4 arg5 harg5 arg6 harg6 arg7 harg7 arg8 harg8 arg9 harg9 x0 x1 x2 x3 x4 d a r h1 h2 h3)]
  unfold runC
  dsimp only
  try sl_unfold_words
  rw [View.canon_cons_unit_zero (S := S1x1024x512) zero3]
  simp only [View.readAt_eq_ld, harg8.read_unread, harg6.read_unread, harg3.read_unread, View.ld_unit_zero (S := S1x1x2048x512) zero4]

end body

/-! ## The windows' blocks -/

variable (m : (ℓ : Loc nD τ sig) → Buf (Elt F) ℓ) (ρ : Dev nD → PrngReg)

/-- Core `c`'s buffers when the region is entered: as launched. -/
abbrev V (c : Dev nD) (b : Ref sig .tc) : Buf (Elt F) ((c : Thread nD τ).loc b) := m ((c : Thread nD τ).loc b)

set_option maxHeartbeats 800000 in
/-- The program up to the region: the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the buffers hold after each point -/

theorem lt128 (t : Fin cfg0.N) : t.val < 128 := lt_of_lt_of_eq t.isLt N_0

/-- The point of the expert of position `n` at step `s`. -/
def pt (n : ℕ) (hn : n < cfg0.N) (s : ℕ) (hs : s < 8) : Fin cfg0.N :=
  ⟨8 * (n / 8) + s, by have e : cfg0.N = 128 := N_0; omega⟩

/-- The decoded row of position `n`'s expert. -/
def rowN (c : Dev nD) (n : ℕ) (hn : n < cfg0.N) : Vec F S1024x2048 .bf16 := rowOf (iblk m c 0 (pt n hn 0 (by decide)))

/-- Activation slice `j` of position `n`'s expert. -/
def actN (c : Dev nD) (n : ℕ) (hn : n < cfg0.N) (j : ℕ) (hj : j < 4) : Vec F S1x1024x512 .bf16 :=
  k0_pay4 (iblk m c 2 (pt n hn j (by omega))) (iblk m c 3 (pt n hn j (by omega))) (rowN m c n hn)

/-- The output block of point `t`. -/
def outN (c : Dev nD) (t : Fin cfg0.N) : Vec F S1x1024x512 .bf16 :=
  k0_pay5 (iblk m c 4 t) (actN m c t.val t.isLt 0 (by decide)) (actN m c t.val t.isLt 1 (by decide)) (actN m c t.val t.isLt 2 (by decide))
    (actN m c t.val t.isLt 3 (by decide)) (View.ld (iblk m c 1 t : Vec F S1x1024x128 .f32) gateRect)

/-- What is known of the scratch buffers after position `n`. -/
def Held (c : Dev nD) (n : ℕ) (hn : n < cfg0.N) (a : Vec F S4x1024x512 .bf16) (r : Vec F S1024x2048 .bf16) : Prop :=
  r = rowN m c n hn ∧ ∀ (j : ℕ) (hj : j < 4), j ≤ n % 8 → View.ld a (slice j hj) = actN m c n hn j hj

theorem pt_eq (n n' : ℕ) (hn : n < cfg0.N) (hn' : n' < cfg0.N) (h : n / 8 = n' / 8) (s : ℕ) (hs : s < 8) : pt n hn s hs = pt n' hn' s hs := by
  unfold pt
  exact Fin.ext (by show 8 * (n / 8) + s = 8 * (n' / 8) + s; rw [h])

theorem rowN_eq (c : Dev nD) (n n' : ℕ) (hn : n < cfg0.N) (hn' : n' < cfg0.N) (h : n / 8 = n' / 8) : rowN m c n hn = rowN m c n' hn' := by
  unfold rowN; rw [pt_eq n n' hn hn' h]

theorem actN_eq (c : Dev nD) (n n' : ℕ) (hn : n < cfg0.N) (hn' : n' < cfg0.N) (h : n / 8 = n' / 8) (j : ℕ) (hj : j < 4) : actN m c n hn j hj = actN m c n' hn' j hj := by
  unfold actN; rw [rowN_eq m c n n' hn hn' h, pt_eq n n' hn hn' h]

theorem pt_self (t : Fin cfg0.N) (s : ℕ) (hs : s < 8) (h : t.val % 8 = s) : pt t.val t.isLt s hs = t := by
  unfold pt
  exact Fin.ext (by show 8 * (t.val / 8) + s = t.val; omega)

/-! ## The invariant and the proof data -/

abbrev ms0 (t : Fin cfg0.N) : Memref sig .tc .vmem S1x1024x1024 .i32 := win0_0.stage (cfg0.slots t 0)
abbrev ms1 (t : Fin cfg0.N) : Memref sig .tc .vmem S1x1024x128 .f32 := win0_1.stage (cfg0.slots t 1)
abbrev ms2 (t : Fin cfg0.N) : Memref sig .tc .vmem S1x1x2048x512 .f32 := win0_2.stage (cfg0.slots t 2)
abbrev ms3 (t : Fin cfg0.N) : Memref sig .tc .vmem S1x1x2048x512 .f32 := win0_3.stage (cfg0.slots t 3)
abbrev ms4 (t : Fin cfg0.N) : Memref sig .tc .vmem S1x1x2048x512 .f32 := win0_4.stage (cfg0.slots t 4)
abbrev ms5 (t : Fin cfg0.N) : Memref sig .tc .vmem S1x1024x512 .bf16 := win0_5.stage (cfg0.slots t 5)
abbrev scA : Memref sig .tc .vmem S4x1024x512 .bf16 := Memref.whole cc0_scratch0
abbrev scR : Memref sig .tc .vmem S1024x2048 .bf16 := Memref.whole cc0_scratch1

theorem PhiA_eq (c : Dev nD) :
    (Pipeline.ΦA spec0 c : sProp 𝕄)
      = iprop(iprop((∃ a, owns (c : Thread nD τ) scA fullShare a) ∗ (∃ r, owns (c : Thread nD τ) scR fullShare r)) ∗ (∃ r, prngReg c r)) := by
  unfold Pipeline.ΦA; rw [scopedRest0_eq]; simp only [scA, scR, owns_whole]; try rfl

/-- The region's invariant before position `n`. -/
def PhiS (c : Dev nD) : (n : ℕ) → n ≤ cfg0.N → sProp 𝕄
  | 0, _ => iprop(iprop(∃ a, ∃ r, ⌜True⌝ ∗ owns (c : Thread nD τ) scA fullShare a ∗ owns (c : Thread nD τ) scR fullShare r) ∗ (∃ r, prngReg c r))
  | n + 1, hn => iprop(iprop(∃ a, ∃ r, ⌜Held m c n hn a r⌝ ∗ owns (c : Thread nD τ) scA fullShare a ∗ owns (c : Thread nD τ) scR fullShare r) ∗ (∃ r, prngReg c r))

theorem PhiS_any (c : Dev nD) (n : ℕ) (h : n ≤ cfg0.N) :
    PhiS m c n h ⊢ iprop(iprop(∃ a, ∃ r, ⌜True⌝ ∗ owns (c : Thread nD τ) scA fullShare a ∗ owns (c : Thread nD τ) scR fullShare r) ∗ (∃ r, prngReg c r)) := by
  cases n with
  | zero => exact .rfl
  | succ n =>
    show iprop(iprop(∃ a, ∃ r, ⌜Held m c n h a r⌝ ∗ owns (c : Thread nD τ) scA fullShare a ∗ owns (c : Thread nD τ) scR fullShare r) ∗ (∃ r, prngReg c r)) ⊢ _
    iintro ⟨⟨%a, %r, -, HA, HR⟩, Hg⟩
    isplitl [HA HR]
    · iexists a; iexists r
      isplitr; · ipureintro; trivial
      isplitl [HA]; · iexact HA
      iexact HR
    iexact Hg

theorem PhiS_pos (c : Dev nD) (n : ℕ) (h : n ≤ cfg0.N) (hz : n ≠ 0) :
    PhiS m c n h = iprop(iprop(∃ a, ∃ r, ⌜Held m c (n - 1) (by omega) a r⌝ ∗ owns (c : Thread nD τ) scA fullShare a ∗ owns (c : Thread nD τ) scR fullShare r) ∗ (∃ r, prngReg c r)) := by
  cases n with
  | zero => exact absurd rfl hz
  | succ n => rfl

/-- The proof data of the one pipeline on core `c`: each input's buffer at its block, the output's at `outN`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outN m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outN m c t := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-! ## Where the output window is idle -/

theorem idleAt (t : Fin cfg0.N) (h : t.val % 8 < 4) : cfg0.idle 5 (cfg0.grid.coords t) = true := by
  show (!(k0_cond3 (grid0.coords t) == 1#1)) = true
  have h' : ¬k0_cond3 (grid0.coords t) = 1#1 := fun e => absurd ((hcond3 t).mp e) (by omega)
  rw [Bool.not_eq_true', beq_eq_false_iff_ne]
  exact h'

theorem liveAt (t : Fin cfg0.N) (h : ¬t.val % 8 < 4) : cfg0.idle 5 (cfg0.grid.coords t) = false := by
  show (!(k0_cond3 (grid0.coords t) == 1#1)) = false
  have h' : k0_cond3 (grid0.coords t) = 1#1 := (hcond3 t).mpr (by omega)
  rw [h']
  rfl

theorem noFlush : ∀ t : Fin cfg0.N, t.val % 8 < 4 → (cfg0.win 5).flush t = false :=
  (by decide +kernel : ∀ t : Fin grid0.N, t.val % 8 < 4 → Pipeline.Window.flushOf grid0 true cc0_transform_5 t = false)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ (dats m 0 c).leavesExact 5 t)

/-- What step 0 leaves in the scratch buffers is what is claimed of them. -/
theorem heldA (c : Dev nD) (t : Fin cfg0.N) (h0 : t.val % 8 = 0) (a' : Vec F S4x1024x512 .bf16)
    (h : View.ld a' (slice 0 (by decide)) = k0_pay4 (iblk m c 2 t) (iblk m c 3 t) (rowOf (iblk m c 0 t))) :
    Held m c t.val t.isLt a' (rowOf (iblk m c 0 t)) := by
  have e : pt t.val t.isLt 0 (by decide) = t := pt_self t 0 (by decide) h0
  refine ⟨by unfold rowN; rw [e], fun j hj hle => ?_⟩
  obtain rfl : j = 0 := by omega
  rw [h]; unfold actN rowN; rw [e]

/-- The same of steps 1, 2, 3. -/
theorem heldB (c : Dev nD) (t : Fin cfg0.N) (h0 : t.val % 8 ≠ 0) (h4 : t.val % 8 < 4) (a a' : Vec F S4x1024x512 .bf16) (r : Vec F S1024x2048 .bf16)
    (hp : Held m c (t.val - 1) (Nat.lt_of_le_of_lt (Nat.sub_le _ _) t.isLt) a r)
    (hit : View.ld a' (slice (t.val % 8) h4) = k0_pay4 (iblk m c 2 t) (iblk m c 3 t) r)
    (miss : ∀ (j : ℕ) (hj : j < 4), j ≠ t.val % 8 → View.ld a' (slice j hj) = View.ld a (slice j hj)) :
    Held m c t.val t.isLt a' r := by
  have ed : (t.val - 1) / 8 = t.val / 8 := by omega
  have er : r = rowN m c t.val t.isLt := hp.1.trans (rowN_eq m c _ _ _ _ ed)
  refine ⟨er, fun j hj hle => ?_⟩
  by_cases e : j = t.val % 8
  · subst e
    rw [hit, er]; unfold actN; rw [pt_self t (t.val % 8) (by omega) rfl]
  · rw [miss j hj e, hp.2 j hj (by omega), actN_eq m c _ _ _ t.isLt ed]

/-- Steps 4 to 7 change neither. -/
theorem heldC (c : Dev nD) (t : Fin cfg0.N) (h4 : ¬t.val % 8 < 4) (a : Vec F S4x1024x512 .bf16) (r : Vec F S1024x2048 .bf16)
    (hp : Held m c (t.val - 1) (Nat.lt_of_le_of_lt (Nat.sub_le _ _) t.isLt) a r) :
    (∀ (j : ℕ) (hj : j < 4), View.ld a (slice j hj) = actN m c t.val t.isLt j hj) ∧ Held m c t.val t.isLt a r := by
  have ed : (t.val - 1) / 8 = t.val / 8 := by omega
  have ha : ∀ (j : ℕ) (hj : j < 4), View.ld a (slice j hj) = actN m c t.val t.isLt j hj := fun j hj => by
    rw [hp.2 j hj (by omega), actN_eq m c _ _ _ t.isLt ed]
  exact ⟨ha, hp.1.trans (rowN_eq m c _ _ _ _ ed), fun j hj _ => ha j hj⟩

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl,
    after_0, after_1, after_2, after_3, after_4]
  rw [show (dats m 0 c).Φ t.succ = iprop(iprop(∃ a, ∃ r, ⌜Held m c t.val t.isLt a r⌝ ∗ owns (c : Thread nD τ) scA fullShare a ∗ owns (c : Thread nD τ) scR fullShare r) ∗ (∃ r, prngReg c r)) from rfl]
  rw [show (dats m 0 c).Φ t.castSucc = PhiS m c t.val (Nat.le_of_lt t.isLt) from by dsimp only [dats]; exact Pipeline.Dat.Φ_castSucc (PhiS m c) t]
  have hN := lt128 t
  by_cases h4 : t.val % 8 < 4
  · have hc2 := (hcond2 t).mpr h4
    have hc3 : ¬k0_cond3 (grid0.coords t) = 1#1 := fun e => absurd ((hcond3 t).mp e) (by omega)
    rw [(dats m 0 c).leavesExact_idle 5 t (idleAt t h4) (noFlush t h4)]
    by_cases h0 : t.val % 8 = 0
    · have hc1 := (hcond1 t).mpr h0
      iintro ⟨HP, Ho, ⟨%d0, H0⟩, ⟨%d1, H1⟩, ⟨%d2, H2⟩, ⟨%d3, H3⟩, ⟨%d4, H4⟩, ⟨%d5, H5⟩⟩
      ihave HP := (PhiS_any m c t.val (Nat.le_of_lt t.isLt)) $$ HP
      icases HP with ⟨⟨%a, %r, -, HA, HR⟩, Hg⟩
      iapply ((runA c (grid0.coords t) _ _ _ _ _ _ _ _ _ _ _ _ _ _ _ _ hc1 hc2 hc3 (iblk m c 0 t) (iblk m c 1 t) (iblk m c 2 t) (iblk m c 3 t) (iblk m c 4 t) _ a r).2.2 Set.univ _)
      isplitl [H0]; · iexact H0
      isplitl [H1]; · iexact H1
      isplitl [H2]; · iexact H2
      isplitl [H3]; · iexact H3
      isplitl [H4]; · iexact H4
      isplitl [H5]; · iexact H5
      isplitl [HA]; · iexact HA
      isplitl [HR]; · iexact HR
      iintro ⟨H0, H1, H2, H3, H4, H5, HA, HR⟩
      isplitl [HA HR Hg]
      · isplitl [HA HR]
        · iexists _; iexists (rowOf (iblk m c 0 t))
          isplitr
          swap
          · isplitl [HA]
            · unfold owns; iexists _; isplitr
              swap; · iexact HA
              ipureintro; rfl
            · unfold owns; iexists _; isplitr
              swap; · iexact HR
              ipureintro; exact rowA c _ _ _ _ _ _ _ _ _ _ _ _ _ _ _ _ _ _ _ _ _ _ _ _ _ hc1 hc2 hc3
          · ipureintro
            refine heldA m c t h0 _ ?_
            rw [slicesA]
            exact read_slice_hit _ a _ _ 0 (by decide) ((off1 t h4).trans (by rw [h0])) _
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5
    · have hc1 : ¬cond1 (grid0.coords t) := fun e => h0 ((hcond1 t).mp e)
      rw [PhiS_pos m c _ _ (by omega)]
      iintro ⟨⟨⟨%a, %r, %hp, HA, HR⟩, Hg⟩, Ho, ⟨%d0, H0⟩, ⟨%d1, H1⟩, ⟨%d2, H2⟩, ⟨%d3, H3⟩, ⟨%d4, H4⟩, ⟨%d5, H5⟩⟩
      iapply ((runB c (grid0.coords t) _ _ _ _ _ _ _ _ _ _ _ _ _ _ _ _ hc1 hc2 hc3 (iblk m c 0 t) (iblk m c 1 t) (iblk m c 2 t) (iblk m c 3 t) (iblk m c 4 t) _ a r).2 Set.univ _)
      isplitl [H0]; · iexact H0
      isplitl [H1]; · iexact H1
      isplitl [H2]; · iexact H2
      isplitl [H3]; · iexact H3
      isplitl [H4]; · iexact H4
      isplitl [H5]; · iexact H5
      isplitl [HA]; · iexact HA
      isplitl [HR]; · iexact HR
      iintro ⟨H0, H1, H2, H3, H4, H5, HA, HR⟩
      isplitl [HA HR Hg]
      · isplitl [HA HR]
        · iexists _; iexists r
          isplitr
          swap
          · isplitl [HA]
            · unfold owns; iexists _; isplitr
              swap; · iexact HA
              ipureintro; rfl
            · iexact HR
          · ipureintro
            refine heldB m c t h0 h4 a _ r hp ?_ fun j hj hne => ?_
            · rw [slicesB]
              exact read_slice_hit _ a _ _ _ h4 (off1 t h4) _
            · rw [slicesB]
              exact read_slice_miss _ a _ _ _ (off1 t h4) _ j hj hne
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5
  · have hc1 : ¬cond1 (grid0.coords t) := fun e => absurd ((hcond1 t).mp e) (by omega)
    have hc2 : ¬k0_cond2 (grid0.coords t) = 1#1 := fun e => h4 ((hcond2 t).mp e)
    have hc3 := (hcond3 t).mpr (by omega : 4 ≤ t.val % 8)
    rw [PhiS_pos m c _ _ (by omega)]
    rw [show (dats m 0 c).leavesExact 5 t = owns (c : Thread nD τ) (ms5 t) fullShare ((dats m 0 c).after 5 t) from by
      unfold Dat.leavesExact; rw [liveAt t h4], after_5]
    iintro ⟨⟨⟨%a, %r, %hp, HA, HR⟩, Hg⟩, Ho, ⟨%d0, H0⟩, ⟨%d1, H1⟩, ⟨%d2, H2⟩, ⟨%d3, H3⟩, ⟨%d4, H4⟩, ⟨%d5, H5⟩⟩
    have hh := heldC m c t h4 a r hp
    iapply ((runC c (grid0.coords t) _ _ _ _ _ _ _ _ _ _ _ _ _ _ _ _ hc1 hc2 hc3 (iblk m c 0 t) (iblk m c 1 t) (iblk m c 2 t) (iblk m c 3 t) (iblk m c 4 t) _ a r).2 Set.univ _)
    isplitl [H0]; · iexact H0
    isplitl [H1]; · iexact H1
    isplitl [H2]; · iexact H2
    isplitl [H3]; · iexact H3
    isplitl [H4]; · iexact H4
    isplitl [H5]; · iexact H5
    isplitl [HA]; · iexact HA
    isplitl [HR]; · iexact HR
    iintro ⟨H0, H1, H2, H3, H4, H5, HA, HR⟩
    isplitl [HA HR Hg]
    · isplitl [HA HR]
      · iexists a; iexists r
        isplitr; · ipureintro; exact hh.2
        isplitl [HA]; · iexact HA
        iexact HR
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro
    refine (outC c _ _ _ _ _ _ _ _ _ _ _ _ _ _ _ _ _ _ _ _ _ _ _ _ _ hc1 hc2 hc3).trans ?_
    unfold outN
    rw [hh.1 0, hh.1 1, hh.1 2, hh.1 3]
    rfl

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiA_eq]
  show _ ⊢ iprop(iprop(∃ a, ∃ r, ⌜True⌝ ∗ owns (c : Thread nD τ) scA fullShare a ∗ owns (c : Thread nD τ) scR fullShare r) ∗ (∃ r, prngReg c r))
  iintro ⟨⟨⟨%a, HA⟩, ⟨%r, HR⟩⟩, Hg⟩
  isplitl [HA HR]
  · iexists a; iexists r
    isplitr; · ipureintro; trivial
    isplitl [HA]; · iexact HA
    iexact HR
  iexact Hg

/-- After the last point the invariant gives it back. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA_eq]
  refine (PhiS_any m c _ _).trans ?_
  iintro ⟨⟨%a, %r, -, HA, HR⟩, Hg⟩
  isplitl [HA HR]
  · isplitl [HA]; · iexists a; iexact HA
    iexists r; iexact HR
  iexact Hg

/-! ## The run and the frame -/

set_option backward.isDefEq.respectTransparency.types false in
/-- The launch: every execution terminates with the arrays at what the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨((h.1 c).1 0).trans (((dats m 0 c).arrAt_in 0 rfl _).trans ((A_eq m c 0).trans rfl)),
     ((h.1 c).1 1).trans (((dats m 0 c).arrAt_in 1 rfl _).trans ((A_eq m c 1).trans rfl)),
     ((h.1 c).1 2).trans (((dats m 0 c).arrAt_in 2 rfl _).trans ((A_eq m c 2).trans rfl)),
     ((h.1 c).1 3).trans (((dats m 0 c).arrAt_in 3 rfl _).trans ((A_eq m c 3).trans rfl)),
     ((h.1 c).1 4).trans (((dats m 0 c).arrAt_in 4 rfl _).trans ((A_eq m c 4).trans rfl))⟩, h.2⟩) (run_main_quiescent m ρ)

end Cert.ExpertsIdeal.Own

end
-- ==== Proof.ExpertsBits.lean ====
/- The experts' kernel as it is read word for word has the same text as its reading over the extended reals: its frame
   is the one run's, at the words. -/
module

public import proofs.«01_k».proof.Proof.Gen.Experts
public import proofs.«01_k».proof.Proof.ExpertsIdealFrame

@[expose] public section

set_option maxRecDepth 16384

noncomputable section

namespace Cert.ExpertsBits

open Idealize.ShloMosaic Idealize.ShloMosaic.TcCoe Idealize.SL.Sem

section same

variable {F : FTy → Type} [FloatOps F]

/-- The body table has one entry, the same in both. -/
theorem bodies : Cert.Experts.defs₀ (F := F) = Cert.ExpertsIdeal.defs₀ (F := F) := by
  unfold Cert.Experts.defs₀ Cert.ExpertsIdeal.defs₀
  refine congrArg _ ?_
  funext l
  match l with
  | 0 => rfl

theorem tables : Cert.Experts.defs (F := F) = Cert.ExpertsIdeal.defs (F := F) :=
  congrArg (Pipeline.defs (Cert.ExpertsIdeal.pcfgs (F := F))) (bodies (F := F))

end same

/-- The kernel's frame. -/
theorem frame (m : (ℓ : Loc Cert.Experts.nD Cert.Experts.τ Cert.Experts.sig) → Buf (Elt Bits) ℓ) (g : Dev Cert.Experts.nD → PrngReg) :
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4))
      ∧ r.2.sem = fun _ => 0) := by
  have h := Cert.ExpertsIdeal.Own.frame (F := Bits) m g
  rw [← tables] at h
  exact h

end Cert.ExpertsBits

end
-- ==== Proof.ExpertsReference.lean ====
/- The experts' plain feed-forward at an index: the decoded tokens, the two products of each expert, their gated
   product, and the product with the third matrix times the gate. -/
module

public import proofs.«01_k».proof.Proof.Gen.ExpertsReferenceIdeal.Run
public import Idealize.ShloMosaic.Lib.Pipeline.ValueKit
public import Idealize.ShloMosaic.Lib.Pointwise
public import Idealize.ShloMosaic.Lib.Tactic

@[expose] public section

set_option maxRecDepth 16384

noncomputable section

namespace Cert.ExpertsReferenceIdeal.Value

open Cert.ExpertsReferenceIdeal Cert.ExpertsReferenceIdeal.Gen Idealize.ShloMosaic Idealize.ShloMosaic.TcCoe Idealize.SL.Sem
open scoped BigOperators

/-- The number that a word's low half is, and -/
def low (w : BitVec 32) : EReal := FloatOps.ofBits (F := Ideal) .f32 (w <<< (16#32))

/-- the number that its high half is. -/
def high (w : BitVec 32) : EReal := FloatOps.ofBits (F := Ideal) .f32 (w &&& 4294901760#32)

/-- A shift by 16 is within the word, on every unit. -/
theorem shli_16 (u : ArithUnit) (w : BitVec 32) : IntOp.shli u w 16#32 = w <<< (16#32) := if_pos (by decide)

/-- Column `k` of a token whose words are given: low halves, then high halves. -/
def column (words : Fin 1024 → BitVec 32) (k : Fin 2048) : EReal :=
  if h : k.val < 1024 then low (words ⟨k.val, h⟩) else high (words ⟨k.val - 1024, by omega⟩)

/-- The decoded tokens, as the program writes them. -/
def tokens (x : IVec S16x1024x1024 32) : FVec Ideal S16x1024x2048 .f32 :=
  concatenate S16x1024x2048 2 [⟨S16x1024x1024, (bitcastToFloat (F := Ideal) .f32 (Host.shli x (broadcastInDim S16x1024x1024 ![] bcast_S_S16x1024x1024 (constantI S_ 32 16#32))))⟩, ⟨S16x1024x1024, (bitcastToFloat (F := Ideal) .f32 (andi x (broadcastInDim S16x1024x1024 ![] bcast_S_S16x1024x1024 (constantI S_ 32 4294901760#32))))⟩] concatenates_S16x1024x1024_S16x1024x1024_S16x1024x2048_d2

theorem tokens_at (x : IVec S16x1024x1024 32) (e : Fin 16) (r : Fin 1024) (k : Fin 2048) :
    tokens x (ix3 e r k) = column (fun q => x (ix3 e r q)) k := by
  unfold tokens column
  by_cases h : k.val < 1024
  · rw [dif_pos h]
    refine (concatenate_pair_apply_left (t := S16x1024x2048) (s₁ := S16x1024x1024) (s₂ := S16x1024x1024) 2 _ _ _ (ix3 e r k) rfl (ix3 e r ⟨k.val, h⟩) (fun b => by fin_cases b <;> rfl)).trans ?_
    exact congrArg (FloatOps.ofBits (F := Ideal) .f32) (shli_16 _ _)
  · rw [dif_neg h]
    refine (concatenate_pair_apply_right (t := S16x1024x2048) (s₁ := S16x1024x1024) (s₂ := S16x1024x1024) 2 _ _ _ (ix3 e r k) rfl rfl (ix3 e r ⟨k.val - 1024, by omega⟩)
      (fun b hb => by fin_cases b; · rfl
                      · rfl
                      · exact absurd rfl hb) (by show k.val - 1024 + 1024 = k.val; omega)).trans ?_
    rfl

/-- The product of each expert's rows with its matrix of the second layer. -/
def prod (x : FVec Ideal S16x1024x2048 .f32) (w : FVec Ideal S2x16x2048x2048 .f32) : FVec Ideal S16x1024x2048 .f32 :=
  Host.dotGeneral dot_S16x1024x2048_S16x2048x2048_S16x1024x2048_2_1_1_2_0_0 none x (shapeCast _ (extractStridedSlice S1x16x2048x2048 ![1, 0, 0, 0] w slices_S2x16x2048x2048_S1x16x2048x2048_1_0_0_0) shapeCasts_S1x16x2048x2048_S16x2048x2048)

theorem prod_at (x : FVec Ideal S16x1024x2048 .f32) (w : FVec Ideal S2x16x2048x2048 .f32) (e : Fin 16) (r : Fin 1024) (f : Fin 2048) :
    prod x w (ix3 e r f) = ∑ k : Fin 2048, x (ix3 e r k) * w (ix4 (1 : Fin 2) e k f) := by
  pointwise [prod]

/-- The gated product. -/
def gated (g u : FVec Ideal S16x1024x2048 .f32) : FVec Ideal S16x1024x2048 .f32 :=
  mulf (mulf g (Host.divf (broadcastInDim S16x1024x2048 ![] bcast_S_S16x1024x2048 (constant S_ .f32 0x3F800000#32)) (addf (broadcastInDim S16x1024x2048 ![] bcast_S_S16x1024x2048 (constant S_ .f32 0x3F800000#32)) (Host.exp (Host.negf g))))) u

theorem gated_at (g u : FVec Ideal S16x1024x2048 .f32) (i : S16x1024x2048.Idx) :
    gated g u i = g i * Ideal.logistic (g i) * u i := by
  pointwise [gated]
  rfl

/-- The plain feed-forward's result. -/
def REF (x : IVec S16x1024x1024 32) (gate : FVec Ideal S16x1024x128 .f32) (wg wu wd : FVec Ideal S2x16x2048x2048 .f32) : FVec Ideal S16x1024x2048 .bf16 :=
  truncf .bf16 (mulf (prod (gated (prod (tokens x) wg) (prod (tokens x) wu)) wd) (broadcastInDim S16x1024x2048 ![0, 1, 2] bcast_S16x1024x1_S16x1024x2048_0_1_2 (extractStridedSlice S16x1024x1 ![0, 0, 0] gate slices_S16x1024x128_S16x1024x1_0_0_0))) bitsLt_bf16_f32

/-- The program's run leaves that, and its arguments as they were. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21) = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (by unfold REF gated prod tokens; rfl), (h c).2⟩) (run m ρ)

/-- The activation of hidden column `f`, from a token's words and its expert's two columns. -/
def act (words : Fin 1024 → BitVec 32) (g u : Fin 2048 → EReal) : EReal :=
  (∑ k, column words k * g k) * Ideal.logistic (∑ k, column words k * g k) * ∑ k, column words k * u k

theorem REF_at (x : IVec S16x1024x1024 32) (gate : FVec Ideal S16x1024x128 .f32) (wg wu wd : FVec Ideal S2x16x2048x2048 .f32)
    (e : Fin 16) (r : Fin 1024) (d : Fin 2048) :
    REF x gate wg wu wd (ix3 e r d)
      = (∑ f : Fin 2048, act (fun q => x (ix3 e r q)) (fun k => wg (ix4 (1 : Fin 2) e k f)) (fun k => wu (ix4 (1 : Fin 2) e k f)) * wd (ix4 (1 : Fin 2) e f d))
        * gate (ix3 e r (0 : Fin 128)) := by
  have h : REF x gate wg wu wd (ix3 e r d) = prod (gated (prod (tokens x) wg) (prod (tokens x) wu)) wd (ix3 e r d) * gate (ix3 e r (0 : Fin 128)) := by
    unfold REF
    generalize prod (gated (prod (tokens x) wg) (prod (tokens x) wu)) wd = p
    pointwise
  rw [h, prod_at]
  refine congrArg (· * _) (Finset.sum_congr rfl fun f _ => congrArg (· * _) ?_)
  rw [gated_at, prod_at, prod_at]
  unfold act
  simp only [tokens_at]

end Cert.ExpertsReferenceIdeal.Value

end
-- ==== Proof.ExpertsValue.lean ====
/- The experts' feed-forward over the extended reals: each payload at an index, each block by its place in the array, and
   the equation of the output array with the plain definition. -/
module

public import proofs.«01_k».proof.Proof.ExpertsIdealFrame
public import proofs.«01_k».proof.Proof.ExpertsReference
public import Idealize.ShloMosaic.Lib.Claim

@[expose] public section

set_option maxRecDepth 16384

noncomputable section

namespace Cert.ExpertsIdeal.Own

open Cert.ExpertsIdeal Cert.ExpertsIdeal.Gen Idealize.ShloMosaic Idealize.ShloMosaic.TcCoe Idealize.SL.Sem
open Cert.ExpertsReferenceIdeal.Value (low high column act shli_16)
open scoped BigOperators

/-! ## The payloads at an index -/

theorem pay2_at (w : Vec Ideal S1x1024x1024 .i32) (r q : Fin 1024) : k0_pay2 w (ix2 r q) = low (w (ix3 (0 : Fin 1) r q)) := by
  have h : k0_pay2 w (ix2 r q) = FloatOps.ofBits (F := Ideal) .f32 (IntOp.shli .vector (w (ix3 (0 : Fin 1) r q)) 16#32) := by
    pointwise [k0_pay2, k0_pay1]
  rw [h, shli_16]
  rfl

theorem pay3_at (w : Vec Ideal S1x1024x1024 .i32) (r q : Fin 1024) : k0_pay3 w (ix2 r q) = high (w (ix3 (0 : Fin 1) r q)) := by
  have h : k0_pay3 w (ix2 r q) = FloatOps.ofBits (F := Ideal) .f32 (IntOp.andi (w (ix3 (0 : Fin 1) r q)) 4294901760#32) := by
    pointwise [k0_pay3, k0_pay1]
  rw [h]
  rfl

/-- The decoded row at an index. -/
theorem rowOf_at (w : Vec Ideal S1x1024x1024 .i32) (r : Fin 1024) (k : Fin 2048) :
    rowOf w (ix2 r k) = column (fun q => w (ix3 (0 : Fin 1) r q)) k := by
  unfold rowOf column
  by_cases h : k.val < 1024
  · rw [dif_pos h, View.canon_cons_of_not_mem]
    · have e : (ix2 r k : S1024x2048.Idx) = (Rect.unit (s := S1024x2048) ![0, 0] S1024x1024.size inb_S1024x2048_S1024x1024_0_0).emb (ix2 r (⟨k.val, h⟩ : Fin 1024)) := by
        funext a
        fin_cases a
        · exact Fin.ext (by show r.val = 0 + 1 * r.val; omega)
        · exact Fin.ext (by show k.val = 0 + 1 * k.val; omega)
      rw [e]
      exact (View.canon_cons_emb (Val := Elt Ideal) _ _ _ _).trans (pay2_at w r ⟨k.val, h⟩)
    · intro hm
      have h1 := (Rect.mem_set_unit (s := S1024x2048) (off := ![0, 1024]) (size := S1024x1024.size) (inb := inb_S1024x2048_S1024x1024_0_1024)).mp hm 1
      have h2 : 1024 ≤ k.val := h1.1
      omega
  · rw [dif_neg h]
    have e : (ix2 r k : S1024x2048.Idx) = (Rect.unit (s := S1024x2048) ![0, 1024] S1024x1024.size inb_S1024x2048_S1024x1024_0_1024).emb (ix2 r (⟨k.val - 1024, by omega⟩ : Fin 1024)) := by
      funext a
      fin_cases a
      · exact Fin.ext (by show r.val = 0 + 1 * r.val; omega)
      · exact Fin.ext (by show k.val = 1024 + 1 * (k.val - 1024); omega)
    rw [e]
    exact (View.canon_cons_emb (Val := Elt Ideal) _ _ _ _).trans (pay3_at w r ⟨k.val - 1024, by omega⟩)

/-- An activation slice at an index. -/
theorem pay4_at (g u : Vec Ideal S1x1x2048x512 .f32) (row : Vec Ideal S1024x2048 .bf16) (r : Fin 1024) (f : Fin 512) :
    k0_pay4 g u row (ix3 (0 : Fin 1) r f)
      = (∑ k : Fin 2048, row (ix2 r k) * g (ix4 (0 : Fin 1) (0 : Fin 1) k f))
        * Ideal.logistic (∑ k : Fin 2048, row (ix2 r k) * g (ix4 (0 : Fin 1) (0 : Fin 1) k f))
        * ∑ k : Fin 2048, row (ix2 r k) * u (ix4 (0 : Fin 1) (0 : Fin 1) k f) := by
  pointwise [k0_pay4]

/-- The output block at an index. -/
theorem pay5_at (w : Vec Ideal S1x1x2048x512 .f32) (a0 a1 a2 a3 : Vec Ideal S1x1024x512 .bf16) (gate : Vec Ideal S1x1024x1 .f32)
    (r : Fin 1024) (d : Fin 512) :
    k0_pay5 w a0 a1 a2 a3 gate (ix3 (0 : Fin 1) r d)
      = ((∑ f : Fin 512, a0 (ix3 (0 : Fin 1) r f) * w (ix4 (0 : Fin 1) (0 : Fin 1) (⟨f.val, by omega⟩ : Fin 2048) d))
          + (∑ f : Fin 512, a1 (ix3 (0 : Fin 1) r f) * w (ix4 (0 : Fin 1) (0 : Fin 1) (⟨512 + f.val, by omega⟩ : Fin 2048) d))
          + (∑ f : Fin 512, a2 (ix3 (0 : Fin 1) r f) * w (ix4 (0 : Fin 1) (0 : Fin 1) (⟨1024 + f.val, by omega⟩ : Fin 2048) d))
          + (∑ f : Fin 512, a3 (ix3 (0 : Fin 1) r f) * w (ix4 (0 : Fin 1) (0 : Fin 1) (⟨1536 + f.val, by omega⟩ : Fin 2048) d)))
        * gate (ix3 (0 : Fin 1) r (0 : Fin 1)) := by
  pointwise [k0_pay5]

/-- A sum over the hidden columns by quarters. -/
theorem sum_quarters (G : Fin 2048 → EReal) :
    ∑ f : Fin 2048, G f
      = (∑ f : Fin 512, G ⟨f.val, by omega⟩) + (∑ f : Fin 512, G ⟨512 + f.val, by omega⟩) + (∑ f : Fin 512, G ⟨1024 + f.val, by omega⟩)
        + ∑ f : Fin 512, G ⟨1536 + f.val, by omega⟩ := by
  have h3 : ∑ f : Fin 2048, G f = _ := Fin.sum_univ_add (a := 1536) (b := 512) (show Fin (1536 + 512) → EReal from G)
  have h2 := Fin.sum_univ_add (a := 1024) (b := 512) fun f => (show Fin (1536 + 512) → EReal from G) (Fin.castAdd 512 f)
  have h1 := Fin.sum_univ_add (a := 512) (b := 512) fun f => (show Fin (1536 + 512) → EReal from G) (Fin.castAdd 512 (show Fin (1024 + 512) from Fin.castAdd 512 f))
  exact h3.trans (congrArg (· + _) (h2.trans (congrArg (· + _) h1)))

/-! ## The blocks' places -/

theorem idx0 : ∀ t : Fin cfg0.N, win0_0.index t = ![t.val / 8, 0, 0] := by decide +kernel
theorem idx1 : ∀ t : Fin cfg0.N, win0_1.index t = ![t.val / 8, 0, 0] := by decide +kernel
theorem idx2 : ∀ t : Fin cfg0.N, t.val % 8 < 4 → win0_2.index t = ![1, t.val / 8, 0, t.val % 8] := by decide +kernel
theorem idx3 : ∀ t : Fin cfg0.N, t.val % 8 < 4 → win0_3.index t = ![1, t.val / 8, 0, t.val % 8] := by decide +kernel
theorem idx4 : ∀ t : Fin cfg0.N, 4 ≤ t.val % 8 → win0_4.index t = ![1, t.val / 8, 0, t.val % 8 - 4] := by decide +kernel
theorem idx5 : ∀ t : Fin cfg0.N, win0_5.index t = ![t.val / 8, 0, t.val % 8 - 4] := by decide +kernel

variable (m : (ℓ : Loc nD τ sig) → Buf (Elt Ideal) ℓ) (c : Dev nD)

abbrev A0 : IVec S16x1024x1024 32 := m ((c.tc : Thread nD τ).loc main_arg0)
abbrev A1 : FVec Ideal S16x1024x128 .f32 := m ((c.tc : Thread nD τ).loc main_arg1)
abbrev A2 : FVec Ideal S2x16x2048x2048 .f32 := m ((c.tc : Thread nD τ).loc main_arg2)
abbrev A3 : FVec Ideal S2x16x2048x2048 .f32 := m ((c.tc : Thread nD τ).loc main_arg3)
abbrev A4 : FVec Ideal S2x16x2048x2048 .f32 := m ((c.tc : Thread nD τ).loc main_arg4)

/-- A point's expert. -/
def expert (n : ℕ) (hn : n < cfg0.N) : Fin 16 := ⟨n / 8, by have e : cfg0.N = 128 := N_0; omega⟩

theorem blk0_at (t : Fin cfg0.N) (r q : Fin 1024) :
    (iblk m c 0 t : Vec Ideal S1x1024x1024 .i32) (ix3 (0 : Fin 1) r q) = A0 m c (ix3 (expert t.val t.isLt) r q) := by
  refine congrArg (m _) ?_
  blk_ext [idx0 t, expert]
  all_goals omega

theorem blk1_at (t : Fin cfg0.N) (r : Fin 1024) (q : Fin 128) :
    (iblk m c 1 t : Vec Ideal S1x1024x128 .f32) (ix3 (0 : Fin 1) r q) = A1 m c (ix3 (expert t.val t.isLt) r q) := by
  refine congrArg (m _) ?_
  blk_ext [idx1 t, expert]
  all_goals omega

theorem blk2_at (t : Fin cfg0.N) (h : t.val % 8 < 4) (k : Fin 2048) (f : Fin 512) :
    (iblk m c 2 t : Vec Ideal S1x1x2048x512 .f32) (ix4 (0 : Fin 1) (0 : Fin 1) k f)
      = A2 m c (ix4 (1 : Fin 2) (expert t.val t.isLt) k (⟨512 * (t.val % 8) + f.val, by omega⟩ : Fin 2048)) := by
  refine congrArg (m _) ?_
  blk_ext [idx2 t h, expert]
  all_goals omega

theorem blk3_at (t : Fin cfg0.N) (h : t.val % 8 < 4) (k : Fin 2048) (f : Fin 512) :
    (iblk m c 3 t : Vec Ideal S1x1x2048x512 .f32) (ix4 (0 : Fin 1) (0 : Fin 1) k f)
      = A3 m c (ix4 (1 : Fin 2) (expert t.val t.isLt) k (⟨512 * (t.val % 8) + f.val, by omega⟩ : Fin 2048)) := by
  refine congrArg (m _) ?_
  blk_ext [idx3 t h, expert]
  all_goals omega

theorem blk4_at (t : Fin cfg0.N) (h : 4 ≤ t.val % 8) (f : Fin 2048) (d : Fin 512) :
    (iblk m c 4 t : Vec Ideal S1x1x2048x512 .f32) (ix4 (0 : Fin 1) (0 : Fin 1) f d)
      = A4 m c (ix4 (1 : Fin 2) (expert t.val t.isLt) f (⟨512 * (t.val % 8 - 4) + d.val, by omega⟩ : Fin 2048)) := by
  refine congrArg (m _) ?_
  blk_ext [idx4 t h, expert]
  all_goals omega

/-! ## What the points compute -/

theorem expert_pt (n : ℕ) (hn : n < cfg0.N) (s : ℕ) (hs : s < 8) : expert (pt n hn s hs).val (pt n hn s hs).isLt = expert n hn :=
  Fin.ext (by show (8 * (n / 8) + s) / 8 = n / 8; omega)

theorem step_pt (n : ℕ) (hn : n < cfg0.N) (s : ℕ) (hs : s < 8) : (pt n hn s hs).val % 8 = s := by
  show (8 * (n / 8) + s) % 8 = s; omega

theorem rowN_at (n : ℕ) (hn : n < cfg0.N) (r : Fin 1024) (k : Fin 2048) :
    rowN m c n hn (ix2 r k) = column (fun q => A0 m c (ix3 (expert n hn) r q)) k := by
  unfold rowN
  rw [rowOf_at]
  refine congrArg (column · k) (funext fun q => ?_)
  rw [blk0_at, expert_pt]

/-- The activation of hidden column `f` for row `r` of position `n`'s expert. -/
def actAt (n : ℕ) (hn : n < cfg0.N) (r : Fin 1024) (f : Fin 2048) : EReal :=
  act (fun q => A0 m c (ix3 (expert n hn) r q)) (fun k => A2 m c (ix4 (1 : Fin 2) (expert n hn) k f)) (fun k => A3 m c (ix4 (1 : Fin 2) (expert n hn) k f))

theorem actN_at (n : ℕ) (hn : n < cfg0.N) (j : ℕ) (hj : j < 4) (r : Fin 1024) (f : Fin 512) :
    actN m c n hn j hj (ix3 (0 : Fin 1) r f) = actAt m c n hn r ⟨512 * j + f.val, by omega⟩ := by
  unfold actN
  rw [pay4_at]
  have hs : (pt n hn j (by omega)).val % 8 = j := step_pt n hn j (by omega)
  have hc : (⟨512 * ((pt n hn j (by omega)).val % 8) + f.val, by omega⟩ : Fin 2048) = ⟨512 * j + f.val, by omega⟩ := Fin.ext (by show 512 * _ + f.val = _; rw [hs])
  simp only [rowN_at, blk2_at m c (pt n hn j (by omega)) (by omega), blk3_at m c (pt n hn j (by omega)) (by omega), expert_pt, hc]
  rfl

theorem gate_at (x : Vec Ideal S1x1024x128 .f32) (r : Fin 1024) :
    (View.ld x gateRect : Vec Ideal S1x1024x1 .f32) (ix3 (0 : Fin 1) r (0 : Fin 1)) = x (ix3 (0 : Fin 1) r (0 : Fin 128)) := by
  refine congrArg x (funext fun a => ?_)
  fin_cases a
  · rfl
  · exact Fin.ext (by show 0 + 1 * r.val = r.val; omega)
  · rfl

/-- The plain feed-forward of the arguments. -/
abbrev want : FVec Ideal S16x1024x2048 .bf16 := Cert.ExpertsReferenceIdeal.Value.REF (A0 m c) (A1 m c) (A2 m c) (A3 m c) (A4 m c)

theorem quarter0 (f : Fin 512) : (⟨512 * 0 + f.val, by omega⟩ : Fin 2048) = ⟨f.val, by omega⟩ := Fin.ext (by show 512 * 0 + f.val = f.val; omega)
theorem quarter1 (f : Fin 512) : (⟨512 * 1 + f.val, by omega⟩ : Fin 2048) = ⟨512 + f.val, by omega⟩ := rfl
theorem quarter2 (f : Fin 512) : (⟨512 * 2 + f.val, by omega⟩ : Fin 2048) = ⟨1024 + f.val, by omega⟩ := rfl
theorem quarter3 (f : Fin 512) : (⟨512 * 3 + f.val, by omega⟩ : Fin 2048) = ⟨1536 + f.val, by omega⟩ := rfl

/-- A written output block is the plain feed-forward's, at its place. -/
theorem outN_at (t : Fin cfg0.N) (h : 4 ≤ t.val % 8) (r : Fin 1024) (d : Fin 512) :
    outN m c t (ix3 (0 : Fin 1) r d) = want m c (ix3 (expert t.val t.isLt) r (⟨512 * (t.val % 8 - 4) + d.val, by omega⟩ : Fin 2048)) := by
  unfold outN want
  rw [pay5_at, Cert.ExpertsReferenceIdeal.Value.REF_at, sum_quarters, gate_at, blk1_at]
  simp only [actN_at, blk4_at m c t h]
  simp only [quarter0, quarter1, quarter2, quarter3]
  rfl

/-- The output array after the run is the plain feed-forward. -/
theorem final : (dats m 0 c).arrAt 5 (cfgs 0).N = want m c := by
  refine (dats m 0 c).arrAt_eq_of_covers 5 _ (by decide +kernel) fun t hf y => ?_
  have h4 : 4 ≤ t.val % 8 := by
    by_contra hlt
    have e := noFlush t (by omega)
    exact absurd (hf.symm.trans e) (by decide)
  blk_simp
  rw [after_5]
  obtain ⟨y0, r, d, rfl⟩ : ∃ (y0 : Fin 1) (r : Fin 1024) (d : Fin 512), y = ix3 y0 r d := ⟨y 0, y 1, y 2, by funext a; fin_cases a <;> rfl⟩
  obtain rfl : y0 = 0 := Subsingleton.elim _ _
  refine (outN_at m c t h4 r d).trans (congrArg (want m c) ?_)
  blk_ext [idx5 t, expert]
  all_goals omega

end Cert.ExpertsIdeal.Own

end
-- ==== Proof.Merge.lean ====
/- The gated merge of the three branches: what the kernel's blocks hold, and the equation with the plain sum. -/
module

public import proofs.«01_k».proof.Proof.Gen.MergeIdeal.Value
public import proofs.«01_k».proof.Proof.Gen.MergeReferenceIdeal.Run
public import Idealize.ShloMosaic.Lib.Pipeline.ValueKit
public import Idealize.ShloMosaic.Lib.Pipeline.ReadBack
public import Idealize.ShloMosaic.Lib.Pointwise
public import Idealize.ShloMosaic.Lib.Tactic
public import Idealize.ShloMosaic.Lib.Claim

@[expose] public section

set_option maxRecDepth 16384

noncomputable section

namespace Cert.MergeReferenceIdeal.Value

open Cert.MergeReferenceIdeal Cert.MergeReferenceIdeal.Gen Idealize.ShloMosaic Idealize.ShloMosaic.TcCoe Idealize.SL.Sem
open scoped BigOperators

/-- The gates, as the program writes them. -/
def gates (p : FVec Ideal S8192x8192 .f32) : FVec Ideal S8192x3x2048 .f32 :=
  shapeCast _ (Host.divf (broadcastInDim S8192x6144 ![] bcast_S_S8192x6144 (constant S_ .f32 0x3F800000#32)) (addf (broadcastInDim S8192x6144 ![] bcast_S_S8192x6144 (constant S_ .f32 0x3F800000#32)) (Host.exp (Host.negf (extractStridedSlice S8192x6144 ![0, 2048] p slices_S8192x8192_S8192x6144_0_2048))))) shapeCasts_S8192x6144_S8192x3x2048

/-- A branch's gate is the logistic of its column of the projection. -/
theorem gates_at (p : FVec Ideal S8192x8192 .f32) (r : Fin 8192) (b : Fin 3) (d : Fin 2048) :
    gates p (ix3 r b d) = Ideal.logistic (p (ix2 r (⟨2048 + 2048 * b.val + d.val, by omega⟩ : Fin 8192))) := by
  pointwise [gates]
  exact congrArg (fun i => Ideal.logistic (p (ix2 r i))) (Fin.ext (by show 2048 + (b.val * 2048 + d.val) = 2048 + 2048 * b.val + d.val; omega))

/-- The stacked branches, as the program writes them. -/
def stack (x0 x1 x2 : FVec Ideal S8192x1024 .bf16) : FVec Ideal S8192x3x1024 .f32 :=
  concatenate S8192x3x1024 1 [⟨S8192x1x1024, (broadcastInDim S8192x1x1024 ![0, 2] bcast_S8192x1024_S8192x1x1024_0_2 (extf .f32 x0 bitsLt_bf16_f32))⟩, ⟨S8192x1x1024, (broadcastInDim S8192x1x1024 ![0, 2] bcast_S8192x1024_S8192x1x1024_0_2 (extf .f32 x1 bitsLt_bf16_f32))⟩, ⟨S8192x1x1024, (broadcastInDim S8192x1x1024 ![0, 2] bcast_S8192x1024_S8192x1x1024_0_2 (extf .f32 x2 bitsLt_bf16_f32))⟩] concatenates_S8192x1x1024_S8192x1x1024_S8192x1x1024_S8192x3x1024_d1

theorem stack_at0 (x0 x1 x2 : FVec Ideal S8192x1024 .bf16) (r : Fin 8192) (k : Fin 1024) :
    stack x0 x1 x2 (ix3 r (0 : Fin 3) k) = x0 (ix2 r k) := by
  pointwise [stack]

theorem stack_at1 (x0 x1 x2 : FVec Ideal S8192x1024 .bf16) (r : Fin 8192) (k : Fin 1024) :
    stack x0 x1 x2 (ix3 r (1 : Fin 3) k) = x1 (ix2 r k) := by
  pointwise [stack]

theorem stack_at2 (x0 x1 x2 : FVec Ideal S8192x1024 .bf16) (r : Fin 8192) (k : Fin 1024) :
    stack x0 x1 x2 (ix3 r (2 : Fin 3) k) = x2 (ix2 r k) := by
  pointwise [stack]

/-- The branches' products with their matrices of the first layer. -/
def prod (x : FVec Ideal S8192x3x1024 .f32) (w : FVec Ideal S2x3x1024x2048 .f32) : FVec Ideal S8192x3x2048 .f32 :=
  transpose S8192x3x2048 [2, 0, 1] (Host.dotGeneral dot_S3x1024x2048_S8192x3x1024_S3x2048x8192_1_2_2_0_0_1 none (shapeCast _ (extractStridedSlice S1x3x1024x2048 ![0, 0, 0, 0] w slices_S2x3x1024x2048_S1x3x1024x2048_0_0_0_0) shapeCasts_S1x3x1024x2048_S3x1024x2048) x) transposes_S3x2048x8192_S8192x3x2048_2_0_1

theorem prod_at (x : FVec Ideal S8192x3x1024 .f32) (w : FVec Ideal S2x3x1024x2048 .f32) (r : Fin 8192) (b : Fin 3) (d : Fin 2048) :
    prod x w (ix3 r b d) = ∑ k : Fin 1024, x (ix3 r b k) * w (ix4 (0 : Fin 2) b k d) := by
  pointwise [prod]
  exact Finset.sum_congr rfl fun k _ => mul_comm _ _

/-- The plain merge's result. -/
def REF (x0 x1 x2 : FVec Ideal S8192x1024 .bf16) (p : FVec Ideal S8192x8192 .f32) (w : FVec Ideal S2x3x1024x2048 .f32) : FVec Ideal S8192x2048 .bf16 :=
  truncf .bf16 (Host.reduceAdd (mulf (gates p) (prod (stack x0 x1 x2) w)) (constant S_ .f32 0x00000000#32) reducesTo_S8192x3x2048_S8192x2048_d1 h_S_) bitsLt_bf16_f32

/-- The program's run leaves that, and its arguments as they were. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21) = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (by unfold REF gates prod stack; rfl), (h c).2⟩) (run m ρ)

/-- One branch's part of the merge: its row with a column of its matrix, times the logistic of the gate's number. -/
def part (g : EReal) (x w : Fin 1024 → EReal) : EReal := Ideal.logistic g * ∑ k, x k * w k

theorem REF_at (x0 x1 x2 : FVec Ideal S8192x1024 .bf16) (p : FVec Ideal S8192x8192 .f32) (w : FVec Ideal S2x3x1024x2048 .f32)
    (r : Fin 8192) (d : Fin 2048) :
    REF x0 x1 x2 p w (ix2 r d)
      = part (p (ix2 r (⟨2048 + d.val, by omega⟩ : Fin 8192))) (fun k => x0 (ix2 r k)) (fun k => w (ix4 (0 : Fin 2) (0 : Fin 3) k d))
        + part (p (ix2 r (⟨4096 + d.val, by omega⟩ : Fin 8192))) (fun k => x1 (ix2 r k)) (fun k => w (ix4 (0 : Fin 2) (1 : Fin 3) k d))
        + part (p (ix2 r (⟨6144 + d.val, by omega⟩ : Fin 8192))) (fun k => x2 (ix2 r k)) (fun k => w (ix4 (0 : Fin 2) (2 : Fin 3) k d)) := by
  have h : REF x0 x1 x2 p w (ix2 r d) = ∑ b : Fin 3, gates p (ix3 r b d) * prod (stack x0 x1 x2) w (ix3 r b d) := by
    unfold REF
    generalize prod (stack x0 x1 x2) w = q
    generalize gates p = g
    pointwise
  rw [h, Fin.sum_univ_three]
  simp only [gates_at, prod_at, stack_at0, stack_at1, stack_at2]
  rfl

end Cert.MergeReferenceIdeal.Value

namespace Cert.MergeIdeal.Value

open Cert.MergeIdeal Cert.MergeIdeal.Gen Idealize.ShloMosaic Idealize.ShloMosaic.TcCoe Idealize.SL.Sem
open scoped BigOperators

theorem zero2 : (![0, 0] : Fin 2 → Nat) = fun _ => 0 := funext fun a => by fin_cases a <;> rfl
theorem zero3 : (![0, 0, 0] : Fin 3 → Nat) = fun _ => 0 := funext fun a => by fin_cases a <;> rfl
theorem zero4 : (![0, 0, 0, 0] : Fin 4 → Nat) = fun _ => 0 := funext fun a => by fin_cases a <;> rfl

section body

variable {F : FTy → Type} [FloatOps F]

/-- A branch's matrix in the scratch's three. -/
def matrix0 (s : Vec F S3x1024x1024 .bf16) : Vec F S1x1024x1024 .bf16 :=
  View.ld s (Rect.unit (s := S3x1024x1024) ![0, 0, 0] S1x1024x1024.size inb_S3x1024x1024_S1x1024x1024_0_0_0)
def matrix1 (s : Vec F S3x1024x1024 .bf16) : Vec F S1x1024x1024 .bf16 :=
  View.ld s (Rect.unit (s := S3x1024x1024) ![1, 0, 0] S1x1024x1024.size inb_S3x1024x1024_S1x1024x1024_1_0_0)
def matrix2 (s : Vec F S3x1024x1024 .bf16) : Vec F S1x1024x1024 .bf16 :=
  View.ld s (Rect.unit (s := S3x1024x1024) ![2, 0, 0] S1x1024x1024.size inb_S3x1024x1024_S1x1024x1024_2_0_0)

/-- A step's result, from its blocks and the scratch's matrices. -/
def step (x0 x1 x2 : Vec F S512x1024 .bf16) (g0 g1 g2 : Vec F S512x1024 .f32) (s : Vec F S3x1024x1024 .bf16) : Vec F S512x1024 .bf16 :=
  k0_pay2 x0 (matrix0 s) g0 x1 (matrix1 s) g1 x2 (matrix2 s) g2

variable (c : Dev nD) (i : grid0.Coords) (a2 : Memref sig .tc .vmem S512x1024 .bf16) (h2 : a2.IsWhole)
  (a3 : Memref sig .tc .vmem S512x1024 .bf16) (h3 : a3.IsWhole) (a4 : Memref sig .tc .vmem S512x1024 .bf16) (h4 : a4.IsWhole)
  (a5 : Memref sig .tc .vmem S512x1024 .f32) (h5 : a5.IsWhole) (a6 : Memref sig .tc .vmem S512x1024 .f32) (h6 : a6.IsWhole)
  (a7 : Memref sig .tc .vmem S512x1024 .f32) (h7 : a7.IsWhole) (a8 : Memref sig .tc .vmem S1x3x1024x1024 .f32) (h8 : a8.IsWhole)
  (a9 : Memref sig .tc .vmem S512x1024 .bf16) (h9 : a9.IsWhole) (a10 : Memref sig .tc .vmem S3x1024x1024 .bf16) (h10 : a10.IsWhole)
  (x0 x1 x2 : Vec F S512x1024 .bf16) (g0 g1 g2 : Vec F S512x1024 .f32) (w : Vec F S1x3x1024x1024 .f32)

/-- At a column block's first step the scratch is left holding the cast matrices. -/
theorem scratch_A (hc : cond0_0 i) :
    sout0_A_0 c i a2 h2 a3 h3 a4 h4 a5 h5 a6 h6 a7 h7 a8 h8 a9 h9 a10 h10 hc x0 x1 x2 g0 g1 g2 w = k0_pay1 w := by
  unfold sout0_A_0
  rw [View.read_writes_eq_canon _ _ _ (scover0_A_0 c i a2 h2 a3 h3 a4 h4 a5 h5 a6 h6 a7 h7 a8 h8 a9 h9 a10 h10 hc x0 x1 x2 g0 g1 g2 w)]
  unfold kernelRun0_A
  dsimp only
  sl_unfold_words
  rw [View.canon_cons_unit_zero (S := S3x1024x1024) zero3]
  simp only [View.readAt_eq_ld, h8.read_unread, View.ld_unit_zero (S := S1x3x1024x1024) zero4]

/-- At that step the products are with these matrices. -/
theorem out_A (hc : cond0_0 i) :
    out0_A_7 c i a2 h2 a3 h3 a4 h4 a5 h5 a6 h6 a7 h7 a8 h8 a9 h9 a10 h10 hc x0 x1 x2 g0 g1 g2 w = step x0 x1 x2 g0 g1 g2 (k0_pay1 w) := by
  unfold out0_A_7
  rw [View.read_writes_eq_canon _ _ _ (cover0_A_7 c i a2 h2 a3 h3 a4 h4 a5 h5 a6 h6 a7 h7 a8 h8 a9 h9 a10 h10 hc x0 x1 x2 g0 g1 g2 w)]
  unfold kernelRun0_A
  dsimp only
  sl_unfold_words
  rw [View.canon_cons_unit_zero (S := S512x1024) zero2]
  simp only [View.readCov_eq_canon', View.canon_cons_unit_zero (S := S3x1024x1024) zero3, View.readAt_eq_ld,
    h2.read_unread, h3.read_unread, h4.read_unread, h5.read_unread, h6.read_unread, h7.read_unread, h8.read_unread,
    View.ld_unit_zero (S := S1x3x1024x1024) zero4, View.ld_unit_zero (S := S512x1024) zero2]
  rfl

/-- At the other steps the products are with the matrices that the scratch holds. -/
theorem out_B (hc : ¬cond0_0 i) (s : Vec F S3x1024x1024 .bf16) :
    out0_B_7 c i a2 h2 a3 h3 a4 h4 a5 h5 a6 h6 a7 h7 a8 h8 a9 h9 a10 h10 hc x0 x1 x2 g0 g1 g2 w s = step x0 x1 x2 g0 g1 g2 s := by
  unfold out0_B_7
  rw [View.read_writes_eq_canon _ _ _ (cover0_B_7 c i a2 h2 a3 h3 a4 h4 a5 h5 a6 h6 a7 h7 a8 h8 a9 h9 a10 h10 hc x0 x1 x2 g0 g1 g2 w s)]
  unfold kernelRun0_B
  dsimp only
  rw [View.canon_cons_unit_zero (S := S512x1024) zero2]
  simp only [View.readAt_eq_ld, h2.read_unread, h3.read_unread, h4.read_unread, h5.read_unread, h6.read_unread, h7.read_unread,
    h10.read_unread, View.ld_unit_zero (S := S512x1024) zero2]
  rfl

end body

theorem idx0 : ∀ t : Fin cfg0.N, win0_0.index t = ![t.val % 16, 0] := by decide +kernel
theorem idx1 : ∀ t : Fin cfg0.N, win0_1.index t = ![t.val % 16, 0] := by decide +kernel
theorem idx2 : ∀ t : Fin cfg0.N, win0_2.index t = ![t.val % 16, 0] := by decide +kernel
theorem idx3 : ∀ t : Fin cfg0.N, win0_3.index t = ![t.val % 16, 2 + t.val / 16] := by decide +kernel
theorem idx4 : ∀ t : Fin cfg0.N, win0_4.index t = ![t.val % 16, 4 + t.val / 16] := by decide +kernel
theorem idx5 : ∀ t : Fin cfg0.N, win0_5.index t = ![t.val % 16, 6 + t.val / 16] := by decide +kernel
theorem idx6 : ∀ t : Fin cfg0.N, win0_6.index t = ![0, 0, 0, t.val / 16] := by decide +kernel
theorem idx7 : ∀ t : Fin cfg0.N, win0_7.index t = ![t.val % 16, t.val / 16] := by decide +kernel

section sweep

variable {F : FTy → Type} [FloatOps F]
variable (m : (ℓ : Loc nD τ sig) → Buf (Elt F) ℓ) (c : Dev nD)

/-- The matrices' block is the same at all steps of a column block. -/
theorem weights_same (t t' : Fin cfg0.N) (h : t.val / 16 = t'.val / 16) : iblk m c 6 t = iblk m c 6 t' := by
  funext y
  show m _ _ = m _ _
  congr 1
  blk_ext [idx6 t, idx6 t']
  all_goals omega

/-- What output block and scratch hold after a step. -/
theorem outs (n : ℕ) : ∀ (h : n < cfg0.N),
    outsAt0 m c n h = (step (iblk m c 0 ⟨n, h⟩) (iblk m c 1 ⟨n, h⟩) (iblk m c 2 ⟨n, h⟩) (iblk m c 3 ⟨n, h⟩) (iblk m c 4 ⟨n, h⟩) (iblk m c 5 ⟨n, h⟩) (k0_pay1 (iblk m c 6 ⟨n, h⟩)), k0_pay1 (iblk m c 6 ⟨n, h⟩)) := by
  induction n with
  | zero =>
    intro h
    rw [show outsAt0 m c 0 h = _ from outsAt0_A m c ⟨0, h⟩ (Nat.zero_mod _), out_A, scratch_A]
  | succ n ih =>
    intro h
    by_cases h0 : (n + 1) % 16 = 0
    · rw [show outsAt0 m c (n + 1) h = _ from outsAt0_A m c ⟨n + 1, h⟩ h0, out_A, scratch_A]
    · have e : iblk m c 6 ⟨n, Nat.lt_of_succ_lt h⟩ = iblk m c 6 ⟨n + 1, h⟩ :=
        weights_same m c _ _ (by show n / 16 = (n + 1) / 16; omega)
      have ih' : (outsAt0 m c n (Nat.lt_of_succ_lt h)).2 = k0_pay1 (iblk m c 6 ⟨n + 1, h⟩) := by
        rw [ih (Nat.lt_of_succ_lt h), e]
      rw [show outsAt0 m c (n + 1) h = _ from outsAt0_B m c ⟨n + 1, h⟩ h0, out_B]
      unfold sout0_B_0
      exact Prod.ext (congrArg (step _ _ _ _ _ _) ih') ih'

end sweep

variable (m : (ℓ : Loc nD τ sig) → Buf (Elt Ideal) ℓ) (c : Dev nD)

open Cert.MergeReferenceIdeal.Value (part)

theorem part_congr {g g' : EReal} {x x' w w' : Fin 1024 → EReal} (hg : g = g') (hx : ∀ k, x k = x' k) (hw : ∀ k, w k = w' k) :
    part g x w = part g' x' w' := by rw [hg, funext hx, funext hw]

theorem matrix0_at (w : Vec Ideal S1x3x1024x1024 .f32) (k d : Fin 1024) :
    matrix0 (k0_pay1 w) (ix3 (0 : Fin 1) k d) = w (ix4 (0 : Fin 1) (0 : Fin 3) k d) := by
  pointwise [matrix0, k0_pay1]

theorem matrix1_at (w : Vec Ideal S1x3x1024x1024 .f32) (k d : Fin 1024) :
    matrix1 (k0_pay1 w) (ix3 (0 : Fin 1) k d) = w (ix4 (0 : Fin 1) (1 : Fin 3) k d) := by
  pointwise [matrix1, k0_pay1]

theorem matrix2_at (w : Vec Ideal S1x3x1024x1024 .f32) (k d : Fin 1024) :
    matrix2 (k0_pay1 w) (ix3 (0 : Fin 1) k d) = w (ix4 (0 : Fin 1) (2 : Fin 3) k d) := by
  pointwise [matrix2, k0_pay1]

theorem pay2_at (x0 x1 x2 : Vec Ideal S512x1024 .bf16) (g0 g1 g2 : Vec Ideal S512x1024 .f32) (w0 w1 w2 : Vec Ideal S1x1024x1024 .bf16) (y : S512x1024.Idx) :
    k0_pay2 x0 w0 g0 x1 w1 g1 x2 w2 g2 y
      = part (g0 y) (fun k => x0 (ix2 (y 0) k)) (fun k => w0 (ix3 (0 : Fin 1) k (y 1)))
        + part (g1 y) (fun k => x1 (ix2 (y 0) k)) (fun k => w1 (ix3 (0 : Fin 1) k (y 1)))
        + part (g2 y) (fun k => x2 (ix2 (y 0) k)) (fun k => w2 (ix3 (0 : Fin 1) k (y 1))) := by
  pointwise [k0_pay2]
  rfl

/-- A step's result at an index. -/
theorem step_at (x0 x1 x2 : Vec Ideal S512x1024 .bf16) (g0 g1 g2 : Vec Ideal S512x1024 .f32) (w : Vec Ideal S1x3x1024x1024 .f32) (y : S512x1024.Idx) :
    step x0 x1 x2 g0 g1 g2 (k0_pay1 w) y
      = part (g0 y) (fun k => x0 (ix2 (y 0) k)) (fun k => w (ix4 (0 : Fin 1) (0 : Fin 3) k (y 1)))
        + part (g1 y) (fun k => x1 (ix2 (y 0) k)) (fun k => w (ix4 (0 : Fin 1) (1 : Fin 3) k (y 1)))
        + part (g2 y) (fun k => x2 (ix2 (y 0) k)) (fun k => w (ix4 (0 : Fin 1) (2 : Fin 3) k (y 1))) := by
  unfold step
  refine (pay2_at _ _ _ _ _ _ _ _ _ y).trans ?_
  exact congrArg₂ (· + ·) (congrArg₂ (· + ·) (part_congr rfl (fun _ => rfl) fun k => matrix0_at w k (y 1))
    (part_congr rfl (fun _ => rfl) fun k => matrix1_at w k (y 1))) (part_congr rfl (fun _ => rfl) fun k => matrix2_at w k (y 1))

theorem lt32 (t : Fin cfg0.N) : t.val < 32 := lt_of_lt_of_eq t.isLt N_0

/-- The output array after the run is the plain merge. -/
theorem final : (dats m 0 c).arrAt 7 (cfgs 0).N
    = Cert.MergeReferenceIdeal.Value.REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 7 _ (by decide +kernel) fun t _ y => ?_
  blk_simp
  have ht := lt32 t
  rw [after0_7, outs]
  refine (step_at _ _ _ _ _ _ _ _).trans ?_
  refine Eq.trans ?_ ((Cert.MergeReferenceIdeal.Value.REF_at _ _ _ _ _ (⟨512 * (t.val % 16) + (y 0).val, by have : (y 0).val < 512 := (y 0).isLt; omega⟩ : Fin 8192) (⟨1024 * (t.val / 16) + (y 1).val, by have : (y 1).val < 1024 := (y 1).isLt; omega⟩ : Fin 2048)).symm.trans (congrArg _ ?_))
  · refine congrArg₂ (· + ·) (congrArg₂ (· + ·) (part_congr (congrArg (m _) ?_) (fun k => congrArg (m _) ?_) (fun k => congrArg (m _) ?_)) (part_congr (congrArg (m _) ?_) (fun k => congrArg (m _) ?_) (fun k => congrArg (m _) ?_))) (part_congr (congrArg (m _) ?_) (fun k => congrArg (m _) ?_) (fun k => congrArg (m _) ?_))
    · blk_ext [idx3 t]
      all_goals omega
    · blk_ext [idx0 t]
      all_goals omega
    · blk_ext [idx6 t]
      all_goals omega
    · blk_ext [idx4 t]
      all_goals omega
    · blk_ext [idx1 t]
      all_goals omega
    · blk_ext [idx6 t]
      all_goals omega
    · blk_ext [idx5 t]
      all_goals omega
    · blk_ext [idx2 t]
      all_goals omega
    · blk_ext [idx6 t]
      all_goals omega
  · blk_ext [idx7 t]
    all_goals omega

end Cert.MergeIdeal.Value

end
-- ==== Proof.Conv.lean ====
/- The gated short convolution: what the kernel's blocks hold, and the equation with the plain convolution. -/
module

public import proofs.«01_k».proof.Proof.Gen.ConvIdeal.Value
public import proofs.«01_k».proof.Proof.Gen.ConvReferenceIdeal.Run
public import Idealize.ShloMosaic.Lib.Pipeline.ValueKit
public import Idealize.ShloMosaic.Lib.Pipeline.ReadBack
public import Idealize.ShloMosaic.Lib.KernelVsHost
public import Idealize.ShloMosaic.Lib.Pointwise
public import Idealize.ShloMosaic.Lib.Tactic
public import Idealize.ShloMosaic.Lib.Claim

@[expose] public section

set_option maxRecDepth 16384

noncomputable section

namespace Cert.ConvReferenceIdeal.Value

open Cert.ConvReferenceIdeal Cert.ConvReferenceIdeal.Gen Idealize.ShloMosaic Idealize.ShloMosaic.TcCoe Idealize.SL.Sem
open scoped BigOperators

/-- The number before position `r` of a sequence, zero at its start, and -/
def before (z : Fin 2048 → EReal) (r : Fin 2048) : EReal := if r.val = 0 then 0 else z ⟨r.val - 1, by omega⟩

/-- the number after it, zero at its end. -/
def after (z : Fin 2048 → EReal) (r : Fin 2048) : EReal := if h : r.val = 2047 then 0 else z ⟨r.val + 1, by omega⟩

/-- The gated convolution at a position: three neighbours times the three weights, times the gate. -/
def conv (b w0 w1 w2 : EReal) (z : Fin 2048 → EReal) (r : Fin 2048) : EReal :=
  b * (before z r * w0 + z r * w1 + after z r * w2)

/-- The projection, as the program writes it. -/
def prod (h : FVec Ideal S8192x2048 .bf16) (w : FVec Ideal S2x2048x14336 .f32) : FVec Ideal S4x2048x3072 .f32 :=
  extractStridedSlice S4x2048x3072 ![0, 0, 3072] (Host.dotGeneral dot_S4x2048x2048_S2048x14336_S4x2048x14336_2_0_01_1_n_n none (shapeCast _ (extf .f32 h bitsLt_bf16_f32) shapeCasts_S8192x2048_S4x2048x2048) (shapeCast _ (extractStridedSlice S1x2048x14336 ![0, 0, 0] w slices_S2x2048x14336_S1x2048x14336_0_0_0) shapeCasts_S1x2048x14336_S2048x14336)) slices_S4x2048x14336_S4x2048x3072_0_0_3072

/-- A column of the projection at a token: the token with that column of the first layer's weights. -/
def column (h : FVec Ideal S8192x2048 .bf16) (w : FVec Ideal S2x2048x14336 .f32) (s : Fin 4) (n : Fin 14336) (r : Fin 2048) : EReal :=
  ∑ k : Fin 2048, h (ix2 (⟨s.val * 2048 + r.val, by omega⟩ : Fin 8192) k) * w (ix3 (0 : Fin 2) k n)

theorem prod_at (h : FVec Ideal S8192x2048 .bf16) (w : FVec Ideal S2x2048x14336 .f32) (s : Fin 4) (r : Fin 2048) (d : Fin 3072) :
    prod h w (ix3 s r d) = column h w s (⟨3072 + d.val, by omega⟩ : Fin 14336) r := by
  unfold column
  pointwise [prod]

/-- The gated input: the third group of columns times the first. -/
def gated (p : FVec Ideal S4x2048x3072 .f32) : FVec Ideal S4x2048x1024 .f32 :=
  mulf (extractStridedSlice S4x2048x1024 ![0, 0, 2048] p slices_S4x2048x3072_S4x2048x1024_0_0_2048) (extractStridedSlice S4x2048x1024 ![0, 0, 0] p slices_S4x2048x3072_S4x2048x1024_0_0_0)

theorem gated_at (p : FVec Ideal S4x2048x3072 .f32) (s : Fin 4) (r : Fin 2048) (d : Fin 1024) :
    gated p (ix3 s r d) = p (ix3 s r (⟨2048 + d.val, by omega⟩ : Fin 3072)) * p (ix3 s r (⟨d.val, by omega⟩ : Fin 3072)) := by
  pointwise [gated]

/-- The gated input with a zero at either end of each sequence. -/
def padded (z : FVec Ideal S4x2048x1024 .f32) : FVec Ideal S4x2050x1024 .f32 :=
  pad S4x2050x1024 ![0, 1, 0] ![0, 1, 0] ![0, 0, 0] z (sitofp .f32 (constantI S_ 32 0#32)) pads_S4x2048x1024_S4x2050x1024_000_110_000 h_S_

theorem padded_in (z : FVec Ideal S4x2048x1024 .f32) (s : Fin 4) (r : Fin 2050) (d : Fin 1024) (q : Fin 2048) (h : r.val = 1 + q.val) :
    padded z (ix3 s r d) = z (ix3 s q d) :=
  pad_apply_of_inside _ _ _ _ _ _ _ _ (ix3 s q d) fun a => by
    fin_cases a
    · show s.val = 0 + s.val * 1; omega
    · show r.val = 1 + q.val * 1; omega
    · show d.val = 0 + d.val * 1; omega

theorem padded_out (z : FVec Ideal S4x2048x1024 .f32) (s : Fin 4) (r : Fin 2050) (d : Fin 1024) (h : r.val = 0 ∨ r.val = 2049) :
    padded z (ix3 s r d) = 0 := by
  refine (pad_apply_of_not_inside _ _ _ _ _ _ _ _ (1 : Fin 3) fun ⟨h1, _, h2⟩ => ?_).trans ?_
  · show ((Int.cast (BitVec.toInt 0#32) : ℝ) : EReal) = 0
    simp
  · have h1' : 1 ≤ r.val := h1
    have h2' : (r.val - 1) / (0 + 1) < 2048 := h2
    omega

/-- One weight of every channel, spread over tokens. -/
def weight0 (w : FVec Ideal S2x3x1024 .f32) : FVec Ideal S4x2048x1024 .f32 :=
  broadcastInDim S4x2048x1024 ![0, 1, 2] bcast_S1x1x1024_S4x2048x1024_0_1_2 (broadcastInDim S1x1x1024 ![2] bcast_S1024_S1x1x1024_2 (shapeCast _ (extractStridedSlice S1x1024 ![0, 0] (shapeCast _ (extractStridedSlice S1x3x1024 ![0, 0, 0] w slices_S2x3x1024_S1x3x1024_0_0_0) shapeCasts_S1x3x1024_S3x1024) slices_S3x1024_S1x1024_0_0) shapeCasts_S1x1024_S1024))
def weight1 (w : FVec Ideal S2x3x1024 .f32) : FVec Ideal S4x2048x1024 .f32 :=
  broadcastInDim S4x2048x1024 ![0, 1, 2] bcast_S1x1x1024_S4x2048x1024_0_1_2 (broadcastInDim S1x1x1024 ![2] bcast_S1024_S1x1x1024_2 (shapeCast _ (extractStridedSlice S1x1024 ![1, 0] (shapeCast _ (extractStridedSlice S1x3x1024 ![0, 0, 0] w slices_S2x3x1024_S1x3x1024_0_0_0) shapeCasts_S1x3x1024_S3x1024) slices_S3x1024_S1x1024_1_0) shapeCasts_S1x1024_S1024))
def weight2 (w : FVec Ideal S2x3x1024 .f32) : FVec Ideal S4x2048x1024 .f32 :=
  broadcastInDim S4x2048x1024 ![0, 1, 2] bcast_S1x1x1024_S4x2048x1024_0_1_2 (broadcastInDim S1x1x1024 ![2] bcast_S1024_S1x1x1024_2 (shapeCast _ (extractStridedSlice S1x1024 ![2, 0] (shapeCast _ (extractStridedSlice S1x3x1024 ![0, 0, 0] w slices_S2x3x1024_S1x3x1024_0_0_0) shapeCasts_S1x3x1024_S3x1024) slices_S3x1024_S1x1024_2_0) shapeCasts_S1x1024_S1024))

theorem weight0_at (w : FVec Ideal S2x3x1024 .f32) (s : Fin 4) (r : Fin 2048) (d : Fin 1024) :
    weight0 w (ix3 s r d) = w (ix3 (0 : Fin 2) (0 : Fin 3) d) := by
  pointwise [weight0]
theorem weight1_at (w : FVec Ideal S2x3x1024 .f32) (s : Fin 4) (r : Fin 2048) (d : Fin 1024) :
    weight1 w (ix3 s r d) = w (ix3 (0 : Fin 2) (1 : Fin 3) d) := by
  pointwise [weight1]
theorem weight2_at (w : FVec Ideal S2x3x1024 .f32) (s : Fin 4) (r : Fin 2048) (d : Fin 1024) :
    weight2 w (ix3 s r d) = w (ix3 (0 : Fin 2) (2 : Fin 3) d) := by
  pointwise [weight2]

/-- The three neighbours' sum and the gate, from the padded input. -/
def mix (p : FVec Ideal S4x2048x3072 .f32) (z : FVec Ideal S4x2050x1024 .f32) (w0 w1 w2 : FVec Ideal S4x2048x1024 .f32) : FVec Ideal S4x2048x1024 .bf16 :=
  truncf .bf16 (mulf (extractStridedSlice S4x2048x1024 ![0, 0, 1024] p slices_S4x2048x3072_S4x2048x1024_0_0_1024) (addf (addf (mulf (extractStridedSlice S4x2048x1024 ![0, 0, 0] z slices_S4x2050x1024_S4x2048x1024_0_0_0) w0) (mulf (extractStridedSlice S4x2048x1024 ![0, 1, 0] z slices_S4x2050x1024_S4x2048x1024_0_1_0) w1)) (mulf (extractStridedSlice S4x2048x1024 ![0, 2, 0] z slices_S4x2050x1024_S4x2048x1024_0_2_0) w2))) bitsLt_bf16_f32

theorem mix_at (p : FVec Ideal S4x2048x3072 .f32) (z : FVec Ideal S4x2050x1024 .f32) (w0 w1 w2 : FVec Ideal S4x2048x1024 .f32)
    (s : Fin 4) (r : Fin 2048) (d : Fin 1024) :
    mix p z w0 w1 w2 (ix3 s r d) = p (ix3 s r (⟨1024 + d.val, by omega⟩ : Fin 3072))
      * (z (ix3 s (⟨r.val, by omega⟩ : Fin 2050) d) * w0 (ix3 s r d) + z (ix3 s (⟨1 + r.val, by omega⟩ : Fin 2050) d) * w1 (ix3 s r d)
        + z (ix3 s (⟨2 + r.val, by omega⟩ : Fin 2050) d) * w2 (ix3 s r d)) := by
  pointwise [mix]

/-- The plain convolution's result. -/
def REF (h : FVec Ideal S8192x2048 .bf16) (w : FVec Ideal S2x2048x14336 .f32) (f : FVec Ideal S2x3x1024 .f32) : FVec Ideal S4x2048x1024 .bf16 :=
  mix (prod h w) (padded (gated (prod h w))) (weight0 f) (weight1 f) (weight2 f)

/-- The program's run leaves that, and its arguments as they were. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v34) = REF (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (by unfold res_main_v34 REF mix padded gated prod weight0 weight1 weight2; rfl), (h c).2⟩) (run m ρ)

/-- The convolution's number at a token and channel. -/
def value (h : FVec Ideal S8192x2048 .bf16) (w : FVec Ideal S2x2048x14336 .f32) (f : FVec Ideal S2x3x1024 .f32) (s : Fin 4) (r : Fin 2048) (d : Fin 1024) : EReal :=
  conv (column h w s (⟨4096 + d.val, by omega⟩ : Fin 14336) r) (f (ix3 (0 : Fin 2) (0 : Fin 3) d)) (f (ix3 (0 : Fin 2) (1 : Fin 3) d)) (f (ix3 (0 : Fin 2) (2 : Fin 3) d))
    (fun q => column h w s (⟨5120 + d.val, by omega⟩ : Fin 14336) q * column h w s (⟨3072 + d.val, by omega⟩ : Fin 14336) q) r

theorem REF_at (h : FVec Ideal S8192x2048 .bf16) (w : FVec Ideal S2x2048x14336 .f32) (f : FVec Ideal S2x3x1024 .f32) (s : Fin 4) (r : Fin 2048) (d : Fin 1024) :
    REF h w f (ix3 s r d) = value h w f s r d := by
  unfold REF
  have hz : ∀ q : Fin 2048, gated (prod h w) (ix3 s q d) = column h w s (⟨5120 + d.val, by omega⟩ : Fin 14336) q * column h w s (⟨3072 + d.val, by omega⟩ : Fin 14336) q := fun q => by
    rw [gated_at, prod_at, prod_at]
    exact congrArg (· * _) (congrArg (fun n => column h w s n q) (Fin.ext (by show 3072 + (2048 + d.val) = 5120 + d.val; omega)))
  have hb : prod h w (ix3 s r (⟨1024 + d.val, by omega⟩ : Fin 3072)) = column h w s (⟨4096 + d.val, by omega⟩ : Fin 14336) r := by
    rw [prod_at]
    exact congrArg (fun n => column h w s n r) (Fin.ext (by show 3072 + (1024 + d.val) = 4096 + d.val; omega))
  rw [mix_at, weight0_at, weight1_at, weight2_at, hb, padded_in _ s (⟨1 + r.val, by omega⟩ : Fin 2050) d r rfl, hz]
  unfold value conv
  refine congrArg (_ * ·) (congrArg₂ (· + ·) (congrArg (· + _) (congrArg (· * _) ?_)) (congrArg (· * _) ?_))
  · unfold before
    by_cases h0 : r.val = 0
    · rw [if_pos h0]; exact padded_out _ _ _ _ (Or.inl h0)
    · rw [if_neg h0]; exact (padded_in _ _ _ _ (⟨r.val - 1, by omega⟩ : Fin 2048) (by show r.val = 1 + (r.val - 1); omega)).trans (hz _)
  · unfold after
    by_cases h0 : r.val = 2047
    · rw [dif_pos h0]; exact padded_out _ _ _ _ (Or.inr (by show 2 + r.val = 2049; omega))
    · rw [dif_neg h0]; exact (padded_in _ _ _ _ (⟨r.val + 1, by omega⟩ : Fin 2048) (by show 2 + r.val = 1 + (r.val + 1); omega)).trans (hz _)

end Cert.ConvReferenceIdeal.Value

namespace Cert.ConvIdeal.Value

open Cert.ConvIdeal Cert.ConvIdeal.Gen Idealize.ShloMosaic Idealize.ShloMosaic.TcCoe Idealize.SL.Sem
open scoped BigOperators

theorem zero3 : (![0, 0, 0] : Fin 3 → Nat) = fun _ => 0 := funext fun a => by fin_cases a <;> rfl

section body

variable {F : FTy → Type} [FloatOps F]

/-- Where the scratch's three matrices lie in it. -/
abbrev rect0 : Rect S3x2048x256 := Rect.unit (s := S3x2048x256) ![0, 0, 0] S1x2048x256.size inb_S3x2048x256_S1x2048x256_0_0_0
abbrev rect1 : Rect S3x2048x256 := Rect.unit (s := S3x2048x256) ![1, 0, 0] S1x2048x256.size inb_S3x2048x256_S1x2048x256_1_0_0
abbrev rect2 : Rect S3x2048x256 := Rect.unit (s := S3x2048x256) ![2, 0, 0] S1x2048x256.size inb_S3x2048x256_S1x2048x256_2_0_0

/-- What the scratch holds after a column block's first step: the three groups' cast matrices. -/
def stack (wx wb wc : Vec F S1x2048x256 .f32) : Vec F S3x2048x256 .bf16 :=
  View.canon [⟨rect2, k0_pay4 wc⟩, ⟨rect1, k0_pay3 wb⟩, ⟨rect0, k0_pay2 wx⟩]

/-- A step's result, from its blocks and the scratch. -/
def step (x : Vec F S1x2048x2048 .bf16) (f : Vec F S1x3x256 .f32) (s : Vec F S3x2048x256 .bf16) : Vec F S1x2048x256 .bf16 :=
  k0_pay1 (k0_pay6 x (View.ld s rect1)) (k0_pay7 x (View.ld s rect0) (View.ld s rect2)) k0_pay8 k0_pay9
    (View.ld f (Rect.unit (s := S1x3x256) ![0, 0, 0] S1x1x256.size inb_S1x3x256_S1x1x256_0_0_0))
    (View.ld f (Rect.unit (s := S1x3x256) ![0, 1, 0] S1x1x256.size inb_S1x3x256_S1x1x256_0_1_0))
    (View.ld f (Rect.unit (s := S1x3x256) ![0, 2, 0] S1x1x256.size inb_S1x3x256_S1x1x256_0_2_0))

theorem apart {S : Shape} (p B : Rect S) (h : LoadRect.disj p B.toLoadRect = true) (x : B.shape.Idx) : B.emb x ∉ p.set :=
  LoadRect.idx_not_mem_of_disj h x

theorem canon_second {S : Shape} {e : EltTy} (p q : Rect S) (h : LoadRect.disj p q.toLoadRect = true) (wp : p.shape.Idx → Elt F e)
    (wq : q.shape.Idx → Elt F e) (L : List (View.Piece (Elt F) S e)) (x : q.shape.Idx) : View.canon (⟨p, wp⟩ :: ⟨q, wq⟩ :: L) (q.emb x) = wq x :=
  (View.canon_cons_of_not_mem ⟨p, wp⟩ _ (apart p q h x)).trans (View.canon_cons_emb q wq L x)

theorem canon_third {S : Shape} {e : EltTy} (p p' q : Rect S) (h : LoadRect.disj p q.toLoadRect = true) (h' : LoadRect.disj p' q.toLoadRect = true)
    (wp : p.shape.Idx → Elt F e) (wp' : p'.shape.Idx → Elt F e) (wq : q.shape.Idx → Elt F e) (x : q.shape.Idx) :
    View.canon [⟨p, wp⟩, ⟨p', wp'⟩, ⟨q, wq⟩] (q.emb x) = wq x :=
  (View.canon_cons_of_not_mem ⟨p, wp⟩ _ (apart p q h x)).trans (canon_second p' q h' wp' wq [] x)

theorem apart21 : LoadRect.disj rect2 rect1.toLoadRect = true :=
  decide_eq_true ⟨0, .inr (.inr (.inr (by show 1 + 1 * (1 - 1) < 2; omega)))⟩
theorem apart20 : LoadRect.disj rect2 rect0.toLoadRect = true :=
  decide_eq_true ⟨0, .inr (.inr (.inr (by show 0 + 1 * (1 - 1) < 2; omega)))⟩
theorem apart10 : LoadRect.disj rect1 rect0.toLoadRect = true :=
  decide_eq_true ⟨0, .inr (.inr (.inr (by show 0 + 1 * (1 - 1) < 1; omega)))⟩

theorem stack2 (wx wb wc : Vec F S1x2048x256 .f32) : View.ld (stack wx wb wc) rect2 = k0_pay4 wc :=
  funext fun x => View.canon_cons_emb rect2 _ _ x

theorem stack1 (wx wb wc : Vec F S1x2048x256 .f32) : View.ld (stack wx wb wc) rect1 = k0_pay3 wb :=
  funext fun x => canon_second rect2 rect1 apart21 _ _ _ x

theorem stack0 (wx wb wc : Vec F S1x2048x256 .f32) : View.ld (stack wx wb wc) rect0 = k0_pay2 wx :=
  funext fun x => canon_third rect2 rect1 rect0 apart20 apart10 _ _ _ x

variable (c : Dev nD) (i : grid0.Coords) (a2 : Memref sig .tc .vmem S1x2048x2048 .bf16) (h2 : a2.IsWhole)
  (a3 : Memref sig .tc .vmem S1x2048x256 .f32) (h3 : a3.IsWhole) (a4 : Memref sig .tc .vmem S1x2048x256 .f32) (h4 : a4.IsWhole)
  (a5 : Memref sig .tc .vmem S1x2048x256 .f32) (h5 : a5.IsWhole) (a6 : Memref sig .tc .vmem S1x3x256 .f32) (h6 : a6.IsWhole)
  (a7 : Memref sig .tc .vmem S1x2048x256 .bf16) (h7 : a7.IsWhole) (a8 : Memref sig .tc .vmem S3x2048x256 .bf16) (h8 : a8.IsWhole)
  (x : Vec F S1x2048x2048 .bf16) (wx wb wc : Vec F S1x2048x256 .f32) (f : Vec F S1x3x256 .f32)

/-- At a column block's first step the scratch is left holding the cast matrices. -/
theorem scratch_A (hc : cond0_0 i) :
    sout0_A_0 c i a2 h2 a3 h3 a4 h4 a5 h5 a6 h6 a7 h7 a8 h8 hc x wx wb wc f = stack wx wb wc := by
  unfold sout0_A_0
  rw [View.read_writes_eq_canon _ _ _ (scover0_A_0 c i a2 h2 a3 h3 a4 h4 a5 h5 a6 h6 a7 h7 a8 h8 hc x wx wb wc f)]
  unfold kernelRun0_A
  dsimp only
  sl_unfold_words
  simp only [View.readAt_eq_ld, h3.read_unread, h4.read_unread, h5.read_unread, View.ld_unit_zero (S := S1x2048x256) zero3]
  rfl

/-- At that step the products are with these matrices. -/
theorem out_A (hc : cond0_0 i) :
    out0_A_5 c i a2 h2 a3 h3 a4 h4 a5 h5 a6 h6 a7 h7 a8 h8 hc x wx wb wc f = step x f (stack wx wb wc) := by
  unfold out0_A_5
  rw [View.read_writes_eq_canon _ _ _ (cover0_A_5 c i a2 h2 a3 h3 a4 h4 a5 h5 a6 h6 a7 h7 a8 h8 hc x wx wb wc f)]
  unfold kernelRun0_A
  dsimp only
  sl_unfold_words
  rw [View.canon_cons_unit_zero (S := S1x2048x256) zero3]
  simp only [View.readCov_eq_canon', View.readAt_eq_ld,
    h2.read_unread, h3.read_unread, h4.read_unread, h5.read_unread, h6.read_unread,
    View.ld_unit_zero (S := S1x2048x256) zero3, View.ld_unit_zero (S := S1x2048x2048) zero3]
  rfl

/-- At the other steps the products are with the matrices that the scratch holds. -/
theorem out_B (hc : ¬cond0_0 i) (s : Vec F S3x2048x256 .bf16) :
    out0_B_5 c i a2 h2 a3 h3 a4 h4 a5 h5 a6 h6 a7 h7 a8 h8 hc x wx wb wc f s = step x f s := by
  unfold out0_B_5
  rw [View.read_writes_eq_canon _ _ _ (cover0_B_5 c i a2 h2 a3 h3 a4 h4 a5 h5 a6 h6 a7 h7 a8 h8 hc x wx wb wc f s)]
  unfold kernelRun0_B
  dsimp only
  sl_unfold_words
  rw [View.canon_cons_unit_zero (S := S1x2048x256) zero3]
  simp only [View.readAt_eq_ld, h2.read_unread, h6.read_unread, h8.read_unread, View.ld_unit_zero (S := S1x2048x2048) zero3]
  rfl

end body

theorem idx0 : ∀ t : Fin cfg0.N, win0_0.index t = ![t.val % 4, 0, 0] := by decide +kernel
theorem idx1 : ∀ t : Fin cfg0.N, win0_1.index t = ![0, 0, 12 + t.val / 4] := by decide +kernel
theorem idx2 : ∀ t : Fin cfg0.N, win0_2.index t = ![0, 0, 16 + t.val / 4] := by decide +kernel
theorem idx3 : ∀ t : Fin cfg0.N, win0_3.index t = ![0, 0, 20 + t.val / 4] := by decide +kernel
theorem idx4 : ∀ t : Fin cfg0.N, win0_4.index t = ![0, 0, t.val / 4] := by decide +kernel
theorem idx5 : ∀ t : Fin cfg0.N, win0_5.index t = ![t.val % 4, 0, t.val / 4] := by decide +kernel

section sweep

variable {F : FTy → Type} [FloatOps F]
variable (m : (ℓ : Loc nD τ sig) → Buf (Elt F) ℓ) (c : Dev nD)

/-- Each group's block is the same at all steps of a column block. -/
theorem same1 (t t' : Fin cfg0.N) (h : t.val / 4 = t'.val / 4) : iblk m c 1 t = iblk m c 1 t' := by
  funext y
  show V m c main_arg1 _ = V m c main_arg1 _
  refine congrArg (V m c main_arg1) ?_
  blk_ext [idx1 t, idx1 t']
  all_goals omega
theorem same2 (t t' : Fin cfg0.N) (h : t.val / 4 = t'.val / 4) : iblk m c 2 t = iblk m c 2 t' := by
  funext y
  show V m c main_arg1 _ = V m c main_arg1 _
  refine congrArg (V m c main_arg1) ?_
  blk_ext [idx2 t, idx2 t']
  all_goals omega
theorem same3 (t t' : Fin cfg0.N) (h : t.val / 4 = t'.val / 4) : iblk m c 3 t = iblk m c 3 t' := by
  funext y
  show V m c main_arg1 _ = V m c main_arg1 _
  refine congrArg (V m c main_arg1) ?_
  blk_ext [idx3 t, idx3 t']
  all_goals omega

/-- The matrices of a step's column block. -/
def held (t : Fin cfg0.N) : Vec F S3x2048x256 .bf16 := stack (iblk m c 1 t) (iblk m c 2 t) (iblk m c 3 t)

theorem held_same (t t' : Fin cfg0.N) (h : t.val / 4 = t'.val / 4) : held m c t = held m c t' := by
  unfold held
  rw [same1 m c t t' h, same2 m c t t' h, same3 m c t t' h]

theorem outs_A (t : Fin cfg0.N) (h0 : t.val % 4 = 0) :
    outsAt0 m c t.val t.isLt = (step (iblk m c 0 t) (iblk m c 4 t) (held m c t), held m c t) := by
  unfold held
  rw [outsAt0_A m c t h0, out_A, scratch_A]

theorem outs_B (t : Fin cfg0.N) (h0 : ¬t.val % 4 = 0) (s : Vec F S3x2048x256 .bf16)
    (hs : (outsAt0 m c (t.val - 1) (Nat.lt_of_le_of_lt (Nat.sub_le _ _) t.isLt)).2 = s) :
    outsAt0 m c t.val t.isLt = (step (iblk m c 0 t) (iblk m c 4 t) s, s) := by
  rw [outsAt0_B m c t h0, out_B, hs]
  unfold sout0_B_0
  rfl

/-- What output block and scratch hold after a step. -/
theorem outs (n : ℕ) : ∀ (h : n < cfg0.N),
    outsAt0 m c n h = (step (iblk m c 0 ⟨n, h⟩) (iblk m c 4 ⟨n, h⟩) (held m c ⟨n, h⟩), held m c ⟨n, h⟩) := by
  induction n with
  | zero => exact fun h => outs_A m c ⟨0, h⟩ (Nat.zero_mod _)
  | succ n ih =>
    intro h
    by_cases h0 : (n + 1) % 4 = 0
    · exact outs_A m c ⟨n + 1, h⟩ h0
    · have hq : n / 4 = (n + 1) / 4 := by omega
      have e : held m c ⟨n, Nat.lt_of_succ_lt h⟩ = held m c ⟨n + 1, h⟩ := held_same m c _ _ hq
      have ih' : (outsAt0 m c n (Nat.lt_of_succ_lt h)).2 = held m c ⟨n + 1, h⟩ := by
        rw [ih (Nat.lt_of_succ_lt h), e]
      exact outs_B m c ⟨n + 1, h⟩ h0 (held m c ⟨n + 1, h⟩) ih'

end sweep

open Cert.ConvReferenceIdeal.Value (before after conv column value)

/-- The row's position within its sequence. -/
theorem pay8_at (r : Fin 2048) (d : Fin 256) : k0_pay8 (ix2 r d) = BitVec.ofNat 32 r.val := by
  pointwise [k0_pay8]
  clear d
  revert r
  decide +kernel

theorem pay9_at (r : Fin 2048) (d : Fin 256) : k0_pay9 (ix2 r d) = 0#32 := rfl

theorem is_first : ∀ r : Fin 2048, IntOp.cmpi .eq (BitVec.ofNat 32 r.val) 0#32 = if r.val = 0 then 1#1 else 0#1 := by decide +kernel
theorem is_last : ∀ r : Fin 2048, IntOp.cmpi .eq (BitVec.ofNat 32 r.val) 2047#32 = if r.val = 2047 then 1#1 else 0#1 := by decide +kernel

theorem select_first (r : Fin 2048) (y w : EReal) (z : Fin 2048 → EReal) (h : ∀ h : r.val ≠ 0, y = z ⟨r.val - 1, by omega⟩) :
    Scalar.select (IntOp.cmpi .eq (BitVec.ofNat 32 r.val) 0#32) 0 (y * w) = before z r * w := by
  rw [is_first]
  unfold before
  by_cases h0 : r.val = 0
  · rw [if_pos h0, if_pos h0, zero_mul]; rfl
  · rw [if_neg h0, if_neg h0, ← h h0]; rfl

theorem select_last (r : Fin 2048) (y w : EReal) (z : Fin 2048 → EReal) (h : ∀ h : r.val ≠ 2047, y = z ⟨r.val + 1, by omega⟩) :
    Scalar.select (IntOp.cmpi .eq (BitVec.ofNat 32 r.val) 2047#32) 0 (y * w) = after z r * w := by
  rw [is_last]
  unfold after
  by_cases h0 : r.val = 2047
  · rw [if_pos h0, dif_pos h0, zero_mul]; rfl
  · rw [if_neg h0, dif_neg h0, ← h h0]; rfl

theorem roll1 (z : FVec Ideal S2048x256 .f32) (r : Fin 2048) (d : Fin 256) (h : r.val ≠ 0) :
    dynamicRotate 0 1#32 none z rotates_S2048x256_d0 (ix2 r d) = z (ix2 (⟨r.val - 1, by omega⟩ : Fin 2048) d) :=
  dynamicRotate_apply _ _ _ _ _ _ fun b => by
    fin_cases b
    · show r.val - 1 = (r.val + 2048 - 1) % 2048; omega
    · rfl

theorem roll2047 (z : FVec Ideal S2048x256 .f32) (r : Fin 2048) (d : Fin 256) (h : r.val ≠ 2047) :
    dynamicRotate 0 2047#32 none z rotates_S2048x256_d0 (ix2 r d) = z (ix2 (⟨r.val + 1, by omega⟩ : Fin 2048) d) :=
  dynamicRotate_apply _ _ _ _ _ _ fun b => by
    fin_cases b
    · show r.val + 1 = (r.val + 2048 - 2047) % 2048; omega
    · rfl

theorem pay1_at (b z : FVec Ideal S2048x256 .f32) (w0 w1 w2 : Vec Ideal S1x1x256 .f32) (r : Fin 2048) (d : Fin 256) :
    k0_pay1 b z k0_pay8 k0_pay9 w0 w1 w2 (ix3 (0 : Fin 1) r d)
      = conv (b (ix2 r d)) (w0 (ix3 (0 : Fin 1) (0 : Fin 1) d)) (w1 (ix3 (0 : Fin 1) (0 : Fin 1) d)) (w2 (ix3 (0 : Fin 1) (0 : Fin 1) d))
          (fun q => z (ix2 q d)) r := by
  have e1 := roll1 z r d
  have e2 := roll2047 z r d
  unfold k0_pay1
  generalize dynamicRotate 0 1#32 none z rotates_S2048x256_d0 = z1 at e1 ⊢
  generalize dynamicRotate 0 2047#32 none z rotates_S2048x256_d0 = z2 at e2 ⊢
  have p8 := pay8_at r d
  have p9 := pay9_at r d
  generalize k0_pay8 = n8 at p8 ⊢
  generalize k0_pay9 = n9 at p9 ⊢
  pointwise
  rw [p8, p9]
  unfold conv
  exact congrArg (_ * ·) (congrArg₂ (· + ·) (congrArg (· + _) (select_first r _ _ (fun q => z (ix2 q d)) e1)) (select_last r _ _ (fun q => z (ix2 q d)) e2))

theorem pay6_at (x : Vec Ideal S1x2048x2048 .bf16) (w : Vec Ideal S1x2048x256 .f32) (r : Fin 2048) (d : Fin 256) :
    k0_pay6 x (k0_pay3 w) (ix2 r d) = ∑ k : Fin 2048, x (ix3 (0 : Fin 1) r k) * w (ix3 (0 : Fin 1) k d) := by
  pointwise [k0_pay6, k0_pay5, k0_pay3]

theorem pay7_at (x : Vec Ideal S1x2048x2048 .bf16) (wx wc : Vec Ideal S1x2048x256 .f32) (r : Fin 2048) (d : Fin 256) :
    k0_pay7 x (k0_pay2 wx) (k0_pay4 wc) (ix2 r d)
      = (∑ k : Fin 2048, x (ix3 (0 : Fin 1) r k) * wc (ix3 (0 : Fin 1) k d)) * ∑ k : Fin 2048, x (ix3 (0 : Fin 1) r k) * wx (ix3 (0 : Fin 1) k d) := by
  pointwise [k0_pay7, k0_pay5, k0_pay2, k0_pay4]

/-- A step's result at an index. -/
theorem step_at (x : Vec Ideal S1x2048x2048 .bf16) (f : Vec Ideal S1x3x256 .f32) (wx wb wc : Vec Ideal S1x2048x256 .f32) (r : Fin 2048) (d : Fin 256) :
    step x f (stack wx wb wc) (ix3 (0 : Fin 1) r d)
      = conv (∑ k : Fin 2048, x (ix3 (0 : Fin 1) r k) * wb (ix3 (0 : Fin 1) k d))
          (f (ix3 (0 : Fin 1) (0 : Fin 3) d)) (f (ix3 (0 : Fin 1) (1 : Fin 3) d)) (f (ix3 (0 : Fin 1) (2 : Fin 3) d))
          (fun q => (∑ k : Fin 2048, x (ix3 (0 : Fin 1) q k) * wc (ix3 (0 : Fin 1) k d)) * ∑ k : Fin 2048, x (ix3 (0 : Fin 1) q k) * wx (ix3 (0 : Fin 1) k d)) r := by
  unfold step
  rw [stack0, stack1, stack2, pay1_at, pay6_at]
  simp only [pay7_at]
  have l0 : View.ld f (Rect.unit (s := S1x3x256) ![0, 0, 0] S1x1x256.size inb_S1x3x256_S1x1x256_0_0_0) (ix3 (0 : Fin 1) (0 : Fin 1) d) = f (ix3 (0 : Fin 1) (0 : Fin 3) d) := by pointwise
  have l1 : View.ld f (Rect.unit (s := S1x3x256) ![0, 1, 0] S1x1x256.size inb_S1x3x256_S1x1x256_0_1_0) (ix3 (0 : Fin 1) (0 : Fin 1) d) = f (ix3 (0 : Fin 1) (1 : Fin 3) d) := by pointwise
  have l2 : View.ld f (Rect.unit (s := S1x3x256) ![0, 2, 0] S1x1x256.size inb_S1x3x256_S1x1x256_0_2_0) (ix3 (0 : Fin 1) (0 : Fin 1) d) = f (ix3 (0 : Fin 1) (2 : Fin 3) d) := by pointwise
  rw [l0, l1, l2]

variable (m : (ℓ : Loc nD τ sig) → Buf (Elt Ideal) ℓ) (c : Dev nD)

/-- The activations by sequence. -/
def tokens (h : FVec Ideal S8192x2048 .bf16) : FVec Ideal S4x2048x2048 .bf16 :=
  shapeCast _ h shapeCasts_S8192x2048_S4x2048x2048

theorem tokens_at (h : FVec Ideal S8192x2048 .bf16) (s : Fin 4) (r k : Fin 2048) :
    tokens h (ix3 s r k) = h (ix2 (⟨s.val * 2048 + r.val, by omega⟩ : Fin 8192) k) := by
  pointwise [tokens]

theorem V_tokens : V m c main_v0 = tokens (m ((c.tc : Thread nD τ).loc main_arg0)) := by
  entry_read
  rfl

theorem lt16 (t : Fin cfg0.N) : t.val < 16 := lt_of_lt_of_eq t.isLt N_0

/-- The sequence of a step. -/
def seqOf (t : Fin cfg0.N) : Fin 4 := ⟨t.val % 4, by omega⟩

theorem blk0_at (t : Fin cfg0.N) (r k : Fin 2048) :
    iblk m c 0 t (ix3 (0 : Fin 1) r k) = m ((c.tc : Thread nD τ).loc main_arg0) (ix2 (⟨(seqOf t).val * 2048 + r.val, by have := (seqOf t).isLt; omega⟩ : Fin 8192) k) := by
  refine Eq.trans ?_ (tokens_at _ (seqOf t) r k)
  refine (congrFun (V_tokens m c) (((cfg0.win 0).blk t).view.emb (ix3 (0 : Fin 1) r k))).trans ?_
  refine congrArg (tokens _) ?_
  blk_ext [idx0 t]
  all_goals first | rfl | (unfold seqOf; omega)

/-- A column of a group's block is a column of the projection. -/
theorem col_at (h : FVec Ideal S8192x2048 .bf16) (w : FVec Ideal S2x2048x14336 .f32) (X : Vec Ideal S1x2048x2048 .bf16) (W : Vec Ideal S1x2048x256 .f32)
    (s : Fin 4) (n : Fin 14336) (r : Fin 2048) (d : Fin 256) (hX : ∀ k : Fin 2048, X (ix3 (0 : Fin 1) r k) = h (ix2 (⟨s.val * 2048 + r.val, by omega⟩ : Fin 8192) k))
    (hW : ∀ k : Fin 2048, W (ix3 (0 : Fin 1) k d) = w (ix3 (0 : Fin 2) k n)) :
    ∑ k : Fin 2048, X (ix3 (0 : Fin 1) r k) * W (ix3 (0 : Fin 1) k d) = column h w s n r :=
  Finset.sum_congr rfl fun k _ => congrArg₂ (fun a b : EReal => a * b) (hX k) (hW k)

theorem conv_congr {b b' w0 w0' w1 w1' w2 w2' : EReal} {z z' : Fin 2048 → EReal} (r : Fin 2048) (hb : b = b') (h0 : w0 = w0') (h1 : w1 = w1') (h2 : w2 = w2')
    (hz : ∀ q, z q = z' q) : conv b w0 w1 w2 z r = conv b' w0' w1' w2' z' r := by
  rw [hb, h0, h1, h2, funext hz]

theorem wblk1_at (t : Fin cfg0.N) (k : Fin 2048) (d : Fin 256) (n : Fin 14336) (h : n.val = 3072 + (256 * (t.val / 4) + d.val)) :
    iblk m c 1 t (ix3 (0 : Fin 1) k d) = m ((c.tc : Thread nD τ).loc main_arg1) (ix3 (0 : Fin 2) k n) := by
  refine (congrFun (V_main_arg1 m c) (((cfg0.win 1).blk t).view.emb (ix3 (0 : Fin 1) k d))).trans ?_
  refine congrArg (m _) ?_
  blk_ext [idx1 t]
  all_goals omega
theorem wblk2_at (t : Fin cfg0.N) (k : Fin 2048) (d : Fin 256) (n : Fin 14336) (h : n.val = 4096 + (256 * (t.val / 4) + d.val)) :
    iblk m c 2 t (ix3 (0 : Fin 1) k d) = m ((c.tc : Thread nD τ).loc main_arg1) (ix3 (0 : Fin 2) k n) := by
  refine (congrFun (V_main_arg1 m c) (((cfg0.win 2).blk t).view.emb (ix3 (0 : Fin 1) k d))).trans ?_
  refine congrArg (m _) ?_
  blk_ext [idx2 t]
  all_goals omega
theorem wblk3_at (t : Fin cfg0.N) (k : Fin 2048) (d : Fin 256) (n : Fin 14336) (h : n.val = 5120 + (256 * (t.val / 4) + d.val)) :
    iblk m c 3 t (ix3 (0 : Fin 1) k d) = m ((c.tc : Thread nD τ).loc main_arg1) (ix3 (0 : Fin 2) k n) := by
  refine (congrFun (V_main_arg1 m c) (((cfg0.win 3).blk t).view.emb (ix3 (0 : Fin 1) k d))).trans ?_
  refine congrArg (m _) ?_
  blk_ext [idx3 t]
  all_goals omega
theorem fblk_at (t : Fin cfg0.N) (b : Fin 3) (d : Fin 256) (n : Fin 1024) (h : n.val = 256 * (t.val / 4) + d.val) :
    iblk m c 4 t (ix3 (0 : Fin 1) b d) = m ((c.tc : Thread nD τ).loc main_arg2) (ix3 (0 : Fin 2) b n) := by
  refine (congrFun (V_main_arg2 m c) (((cfg0.win 4).blk t).view.emb (ix3 (0 : Fin 1) b d))).trans ?_
  refine congrArg (m _) ?_
  blk_ext [idx4 t]
  all_goals omega

/-- The output array after the run is the plain convolution. -/
theorem final : (dats m 0 c).arrAt 5 (cfgs 0).N
    = Cert.ConvReferenceIdeal.Value.REF (m ((c.tc : Thread nD τ).loc main_arg0)) (m ((c.tc : Thread nD τ).loc main_arg1)) (m ((c.tc : Thread nD τ).loc main_arg2)) := by
  refine (dats m 0 c).arrAt_eq_of_covers 5 _ (by decide +kernel) fun t _ y => ?_
  blk_simp
  have ht := lt16 t
  rw [after0_5, outs]
  obtain ⟨r, hr⟩ : ∃ r : Fin 2048, r = y 1 := ⟨_, rfl⟩
  obtain ⟨d, hd⟩ : ∃ d : Fin 256, d = y 2 := ⟨_, rfl⟩
  have hy : y = ix3 (0 : Fin 1) r d := by
    funext a
    fin_cases a
    · exact Fin.ext (by have : (y 0).val < 1 := (y 0).isLt; show (y 0).val = 0; omega)
    · exact hr.symm
    · exact hd.symm
  subst hy
  refine (step_at _ _ _ _ _ r d).trans ?_
  refine Eq.trans ?_ ((Cert.ConvReferenceIdeal.Value.REF_at _ _ _ (seqOf t) r (⟨256 * (t.val / 4) + d.val, by omega⟩ : Fin 1024)).symm.trans (congrArg _ ?_))
  · unfold value
    refine conv_congr r ?_ ?_ ?_ ?_ fun q => congrArg₂ (fun a b : EReal => a * b) ?_ ?_
    · exact col_at _ _ _ _ _ _ r d (blk0_at m c t r) fun k => wblk2_at m c t k d _ rfl
    · exact fblk_at m c t 0 d _ rfl
    · exact fblk_at m c t 1 d _ rfl
    · exact fblk_at m c t 2 d _ rfl
    · exact col_at _ _ _ _ _ _ q d (blk0_at m c t q) fun k => wblk3_at m c t k d _ rfl
    · exact col_at _ _ _ _ _ _ q d (blk0_at m c t q) fun k => wblk1_at m c t k d _ rfl
  · blk_ext [idx5 t]
    all_goals first | rfl | (unfold seqOf; omega) | omega

end Cert.ConvIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.Projection
public import proofs.«01_k».proof.Proof.Gen.Projection.Frame
public import proofs.«01_k».proof.Proof.Gen.ProjectionIdeal
public import proofs.«01_k».proof.Proof.Gen.ProjectionIdeal.Frame
public import proofs.«01_k».proof.Proof.Gen.ProjectionIdeal.Value
public import proofs.«01_k».proof.Proof.Gen.ProjectionReferenceIdeal
public import proofs.«01_k».proof.Proof.Gen.ProjectionReferenceIdeal.Run
public import proofs.«01_k».proof.Proof.Gen.Experts
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Points
public import proofs.«01_k».proof.Proof.Gen.ExpertsReferenceIdeal
public import proofs.«01_k».proof.Proof.Gen.ExpertsReferenceIdeal.Run
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.Conv
public import proofs.«01_k».proof.Proof.Gen.Conv.Frame
public import proofs.«01_k».proof.Proof.Gen.ConvIdeal
public import proofs.«01_k».proof.Proof.Gen.ConvIdeal.Frame
public import proofs.«01_k».proof.Proof.Gen.ConvIdeal.Value
public import proofs.«01_k».proof.Proof.Gen.ConvReferenceIdeal
public import proofs.«01_k».proof.Proof.Gen.ConvReferenceIdeal.Run
public import proofs.«01_k».proof.Proof.Gen.ReferenceIdeal
public import proofs.«01_k».proof.Proof.Gen.ReferenceIdeal.Run
public import proofs.«01_k».proof.Proof.Gen.Pre_finite_scores
public import proofs.«01_k».proof.Proof.Finite
public import proofs.«01_k».proof.Proof.Point
public import proofs.«01_k».proof.Proof.Project
public import proofs.«01_k».proof.Proof.ExpertsBits
public import proofs.«01_k».proof.Proof.ExpertsValue
public import proofs.«01_k».proof.Proof.Merge
public import proofs.«01_k».proof.Proof.Conv
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The precondition, read at the kernel's arguments. -/
theorem finiteAt (m : (ℓ : Loc Cert.KernelIdeal.nD Cert.KernelIdeal.τ Cert.KernelIdeal.sig) → Buf (Elt Ideal) ℓ)
    (h : Cert.Pre_KernelIdeal_finite_scores (hPre_finite_scores := Cert.Pre_finite_scores.Gen.facts) m) (c : Dev Cert.KernelIdeal.nD) :
    Cert.KernelIdeal.Value.FiniteAt m c := by
  letI := Cert.Pre_finite_scores.Gen.facts
  obtain ⟨h0, h1, h2⟩ := Cert.Finite.reads _ _ _ (h c)
  exact ⟨h0, h1, h2⟩

/-- The kernel's output array after the run is the plain definition's result. -/
theorem final (m : (ℓ : Loc Cert.KernelIdeal.nD Cert.KernelIdeal.τ Cert.KernelIdeal.sig) → Buf (Elt Ideal) ℓ) (c : Dev Cert.KernelIdeal.nD)
    (hf : Cert.KernelIdeal.Value.FiniteAt m c) :
    (Cert.KernelIdeal.Gen.dats m 0 c).arrAt 6 (Cert.KernelIdeal.cfgs 0).N = Cert.KernelIdeal.Value.want m c := by
  refine (Cert.KernelIdeal.Gen.dats m 0 c).arrAt_eq_of_covers 6 _ (by decide +kernel) fun t _ y => ?_
  blk_simp
  rw [Cert.KernelIdeal.Gen.after0_6]
  refine (Cert.KernelIdeal.Value.point m c hf t y).trans (congrArg (Cert.KernelIdeal.Value.want m c) ?_)
  blk_ext [Cert.KernelIdeal.Value.idx6 t]
  · rfl
  · show 256 * (t.val % 8) + (y 1 : Fin 256).val = t.val % 8 * 256 + (y 1 : Fin 256).val
    omega

/-- The plain definition's frame: every operation is the host's, and the program has no semaphore. -/
theorem frameR (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2, sem_eq_zero_of_no_sems (by decide) r.2⟩)
    (Cert.ReferenceIdeal.Value.run m g)

/-- The plain projection's frame: every operation is the host's, and the program has no semaphore. -/
theorem frameQ (m : (ℓ : Loc Cert.ProjectionReferenceIdeal.nD Cert.ProjectionReferenceIdeal.τ Cert.ProjectionReferenceIdeal.sig) → Buf (Elt Ideal) ℓ)
    (g : Dev Cert.ProjectionReferenceIdeal.nD → PrngReg) :
    θ_run (Cert.ProjectionReferenceIdeal.defs (F := Ideal)) (onTc (τ := Cert.ProjectionReferenceIdeal.τ) (Cert.ProjectionReferenceIdeal.main (F := Ideal))) ⟨m, fun _ => 0, g⟩ (fun r => (∀ c : Dev Cert.ProjectionReferenceIdeal.nD,
      r.2.mem ((c.tc : Thread Cert.ProjectionReferenceIdeal.nD Cert.ProjectionReferenceIdeal.τ).loc Cert.ProjectionReferenceIdeal.main_arg0) = m ((c.tc : Thread Cert.ProjectionReferenceIdeal.nD Cert.ProjectionReferenceIdeal.τ).loc Cert.ProjectionReferenceIdeal.main_arg0)
      ∧ r.2.mem ((c.tc : Thread Cert.ProjectionReferenceIdeal.nD Cert.ProjectionReferenceIdeal.τ).loc Cert.ProjectionReferenceIdeal.main_arg1) = m ((c.tc : Thread Cert.ProjectionReferenceIdeal.nD Cert.ProjectionReferenceIdeal.τ).loc Cert.ProjectionReferenceIdeal.main_arg1))
      ∧ r.2.sem = fun _ => 0) :=
  (θ_run Cert.ProjectionReferenceIdeal.defs _ _).mono (fun r h => ⟨fun c => (h c).2, sem_eq_zero_of_no_sems (by decide) r.2⟩)
    (Cert.ProjectionReferenceIdeal.Value.run m g)

/-- The plain feed-forward's frame: every operation is the host's, and the program has no semaphore. -/
theorem frameX (m : (ℓ : Loc Cert.ExpertsReferenceIdeal.nD Cert.ExpertsReferenceIdeal.τ Cert.ExpertsReferenceIdeal.sig) → Buf (Elt Ideal) ℓ)
    (g : Dev Cert.ExpertsReferenceIdeal.nD → PrngReg) :
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4))
      ∧ r.2.sem = fun _ => 0) :=
  (θ_run Cert.ExpertsReferenceIdeal.defs _ _).mono (fun r h => ⟨fun c => (h c).2, sem_eq_zero_of_no_sems (by decide) r.2⟩)
    (Cert.ExpertsReferenceIdeal.Value.run m g)

/-- The plain merge's frame: every operation is the host's, and the program has no semaphore. -/
theorem frameM (m : (ℓ : Loc Cert.MergeReferenceIdeal.nD Cert.MergeReferenceIdeal.τ Cert.MergeReferenceIdeal.sig) → Buf (Elt Ideal) ℓ)
    (g : Dev Cert.MergeReferenceIdeal.nD → PrngReg) :
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4))
      ∧ r.2.sem = fun _ => 0) :=
  (θ_run Cert.MergeReferenceIdeal.defs _ _).mono (fun r h => ⟨fun c => (h c).2, sem_eq_zero_of_no_sems (by decide) r.2⟩)
    (Cert.MergeReferenceIdeal.Value.run m g)

/-- The plain convolution's frame: every operation is the host's, and the program has no semaphore. -/
theorem frameC (m : (ℓ : Loc Cert.ConvReferenceIdeal.nD Cert.ConvReferenceIdeal.τ Cert.ConvReferenceIdeal.sig) → Buf (Elt Ideal) ℓ)
    (g : Dev Cert.ConvReferenceIdeal.nD → PrngReg) :
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2))
      ∧ r.2.sem = fun _ => 0) :=
  (θ_run Cert.ConvReferenceIdeal.defs _ _).mono (fun r h => ⟨fun c => (h c).2, sem_eq_zero_of_no_sems (by decide) r.2⟩)
    (Cert.ConvReferenceIdeal.Value.run m g)

/-- The merge's value. -/
theorem valueM : Cert.algebraic_MergeIdeal_MergeReferenceIdeal (hMergeIdeal := Cert.MergeIdeal.Gen.facts) (hMergeReferenceIdeal := Cert.MergeReferenceIdeal.Gen.facts) := by
  pair_intro
  · run_from Cert.MergeIdeal.Gen.run_main m g
  · refine (θ_run Cert.MergeReferenceIdeal.defs _ _).mono (fun r h c => ⟨(h c).1.trans ?_, (h c).2⟩) (Cert.MergeReferenceIdeal.Value.run_ref m' g')
    obtain ⟨e0, e1, e2, e3, e4⟩ := hagree c
    rw [e0, e1, e2, e3, e4]
    exact (Cert.MergeIdeal.Value.final m c).symm

/-- The convolution's value. -/
theorem valueC : Cert.algebraic_ConvIdeal_ConvReferenceIdeal (hConvIdeal := Cert.ConvIdeal.Gen.facts) (hConvReferenceIdeal := Cert.ConvReferenceIdeal.Gen.facts) := by
  pair_intro
  · run_from Cert.ConvIdeal.Gen.run_main m g
  · refine (θ_run Cert.ConvReferenceIdeal.defs _ _).mono (fun r h c => ⟨(h c).1.trans ?_, (h c).2⟩) (Cert.ConvReferenceIdeal.Value.run_ref m' g')
    obtain ⟨e0, e1, e2⟩ := hagree c
    rw [e0, e1, e2]
    exact (Cert.ConvIdeal.Value.final m c).symm

theorem claim : Cert.Claim := ⟨Cert.Kernel.Gen.facts, Cert.KernelIdeal.Gen.facts, Cert.ReferenceIdeal.Gen.facts,
    Cert.Projection.Gen.facts, Cert.ProjectionIdeal.Gen.facts, Cert.ProjectionReferenceIdeal.Gen.facts,
    Cert.Experts.Gen.facts, Cert.ExpertsIdeal.Gen.facts, Cert.ExpertsReferenceIdeal.Gen.facts,
    Cert.Merge.Gen.facts, Cert.MergeIdeal.Gen.facts, Cert.MergeReferenceIdeal.Gen.facts,
    Cert.Conv.Gen.facts, Cert.ConvIdeal.Gen.facts, Cert.ConvReferenceIdeal.Gen.facts,
    Cert.Pre_finite_scores.Gen.facts, by
  refine ⟨fun m g _ => Cert.Kernel.Gen.frame m g, fun m g _ => Cert.KernelIdeal.Gen.frame m g, fun m g _ => Cert.KernelIdeal.Gen.frame m g,
    fun m g _ => frameR m g, fun m g _ => frameR m g,
    fun m g _ => Cert.Projection.Gen.frame m g, fun m g _ => Cert.ProjectionIdeal.Gen.frame m g, fun m g _ => frameQ m g,
    fun m g _ => Cert.ExpertsBits.frame m g, fun m g _ => Cert.ExpertsIdeal.Own.frame m g, fun m g _ => frameX m g,
    fun m g _ => Cert.Merge.Gen.frame m g, fun m g _ => Cert.MergeIdeal.Gen.frame m g, fun m g _ => frameM m g,
    fun m g _ => Cert.Conv.Gen.frame m g, fun m g _ => Cert.ConvIdeal.Gen.frame m g, fun m g _ => frameC m g,
    IdealRules.named_const.statement _ _ _ _ _ rfl, ?_, trivial, ?_, trivial, ?_, trivial, valueM, trivial, valueC⟩
  · pair_intro
    · run_from Cert.KernelIdeal.Gen.run_main m g
      · exact Cert.KernelIdeal.Gen.V_main_arg0 m c
      · exact Cert.KernelIdeal.Gen.V_main_arg1 m c
      · exact Cert.KernelIdeal.Gen.V_main_arg2 m c
    · run_from Cert.ReferenceIdeal.Value.run m' g'
      rw [final m c (finiteAt m hpre c)]
      refine (Cert.ReferenceIdeal.Value.res_eq m' c).trans ?_
      obtain ⟨e0, e1, e2⟩ := hagree c
      rw [e0, e1, e2]
      rfl
  · pair_intro
    · run_from Cert.ProjectionIdeal.Gen.run_main m g
    · run_from Cert.ProjectionReferenceIdeal.Value.run m' g'
      rw [Cert.ProjectionIdeal.Value.final m c]
      obtain ⟨e0, e1⟩ := hagree c
      rw [← e0, ← e1]
      rfl
  · pair_intro
    · run_from Cert.ExpertsIdeal.Own.run_main m g
    · run_from Cert.ExpertsReferenceIdeal.Value.run_ref m' g'
      exact (Cert.ExpertsIdeal.Own.final m c).symm⟩

end Cert.Proof

end
